-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 16384, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 16384, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .f32) (main_arg1 : FVec F S1024x1024 .f32) (main_arg2 : FVec F S1x2048x8x128 .f32) (main_arg3 : FVec F S1x2048x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x8x128 .f32 := Host.absf main_arg2
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_finite_scores_ReferenceIdeal.lean ====
abbrev S1x2048x1024 : Shape := ⟨3, ![1, 2048, 1024]⟩
abbrev S1024x1024 : Shape := ⟨2, ![1024, 1024]⟩
abbrev S1x16384x8x128 : Shape := ⟨4, ![1, 16384, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x16384x8x128 : S_.BroadcastsInDim S1x16384x8x128 (![] : Fin 0 → Fin S1x16384x8x128.rank)
  reducesTo_S1x16384x8x128_S_d0_1_2_3 : S1x16384x8x128.ReducesTo [0, 1, 2, 3] S_

variable [Facts]

def fn {F : FTy → Type} [FloatOps F] (main_arg0 : FVec F S1x2048x1024 .f32) (main_arg1 : FVec F S1024x1024 .f32) (main_arg2 : FVec F S1x16384x8x128 .f32) (main_arg3 : FVec F S1x16384x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x16384x8x128 .f32 := Host.absf main_arg2
  let main_cst_2 : FVec F S_ .f32 := constant S_ .f32 0x7F800000#32
  let main_v10 : FVec F S1x16384x8x128 .f32 := broadcastInDim S1x16384x8x128 ![] bcast_S_S1x16384x8x128 main_cst_2
  let main_v11 : IVec S1x16384x8x128 1 := cmpf .olt main_v9 main_v10
  let main_c_3 : IVec S_ 1 := constantI S_ 1 1#1
  let main_v12 : IVec S_ 1 := (fun x v => Host.reduce IntOp.andi x v reducesTo_S1x16384x8x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S128x8x128 : Shape := ⟨3, ![128, 8, 128]⟩
abbrev S8x2 : Shape := ⟨2, ![8, 2]⟩
abbrev S8 : Shape := ⟨1, ![8]⟩
abbrev S2 : Shape := ⟨1, ![2]⟩
abbrev S_ : Shape := ⟨0, ![]⟩
abbrev S1 : Shape := ⟨1, ![1]⟩
abbrev S1x128x8x128 : Shape := ⟨4, ![1, 128, 8, 128]⟩
abbrev S1x512x8x128 : Shape := ⟨4, ![1, 512, 8, 128]⟩
abbrev S512x8x128 : Shape := ⟨3, ![512, 8, 128]⟩
abbrev S1x256x1024 : Shape := ⟨3, ![1, 256, 1024]⟩
abbrev S256x1024 : Shape := ⟨2, ![256, 1024]⟩
abbrev S256x512 : Shape := ⟨2, ![256, 512]⟩
abbrev S256x128 : Shape := ⟨2, ![256, 128]⟩
abbrev S512x1x128 : Shape := ⟨3, ![512, 1, 128]⟩
abbrev S512x128 : Shape := ⟨2, ![512, 128]⟩
abbrev S256 : Shape := ⟨1, ![256]⟩
abbrev S256x1 : Shape := ⟨2, ![256, 1]⟩
abbrev S1x1 : Shape := ⟨2, ![1, 1]⟩
abbrev S1x384x8x128 : Shape := ⟨4, ![1, 384, 8, 128]⟩
abbrev S384x8x128 : Shape := ⟨3, ![384, 8, 128]⟩

abbrev nBuf : Space → Nat
  | .hbm => 6
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S1x2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1x2048x8x128, .f32⟩
  | .local _ .vmem, ⟨3, _⟩ => ⟨S1x2048x8x128, .f32⟩
  | .local _ .vmem, ⟨4, _⟩ => ⟨S1024x1024, .f32⟩
  | .local _ .vmem, ⟨5, _⟩ => ⟨S1x2048x1024, .f32⟩
  | .local _ .vmem, ⟨6, _⟩ => ⟨S128x8x128, .f32⟩
  | .local _ .vmem, ⟨7, _⟩ => ⟨S128x8x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 : Nat :=
  let c0_i32_5 : BitVec 32 := 0#32
  let c0_i32_3 : BitVec 32 := 0#32
  let c1_i32_4 : BitVec 32 := 1#32
  let v11 : BitVec 32 := Scalar.muli c0_i32_3 c1_i32_4
  let v12 : BitVec 32 := Scalar.addi c0_i32_5 v11
  v12.toNat
def k0_dev2 : Nat :=
  let c0_i32_9 : BitVec 32 := 0#32
  let c1_i32_7 : BitVec 32 := 1#32
  let c1_i32_8 : BitVec 32 := 1#32
  let v13 : BitVec 32 := Scalar.muli c1_i32_7 c1_i32_8
  let v14 : BitVec 32 := Scalar.addi c0_i32_9 v13
  v14.toNat
def k0_dev3 : Nat :=
  let c0_i32_12 : BitVec 32 := 0#32
  let c2_i32 : BitVec 32 := 2#32
  let c1_i32_11 : BitVec 32 := 1#32
  let v15 : BitVec 32 := Scalar.muli c2_i32 c1_i32_11
  let v16 : BitVec 32 := Scalar.addi c0_i32_12 v15
  v16.toNat
def k0_dev4 : Nat :=
  let c0_i32_16 : BitVec 32 := 0#32
  let c3_i32_14 : BitVec 32 := 3#32
  let c1_i32_15 : BitVec 32 := 1#32
  let v17 : BitVec 32 := Scalar.muli c3_i32_14 c1_i32_15
  let v18 : BitVec 32 := Scalar.addi c0_i32_16 v17
  v18.toNat
def k0_dev5 : Nat :=
  let c0_i32_19 : BitVec 32 := 0#32
  let c4_i32 : BitVec 32 := 4#32
  let c1_i32_18 : BitVec 32 := 1#32
  let v19 : BitVec 32 := Scalar.muli c4_i32 c1_i32_18
  let v20 : BitVec 32 := Scalar.addi c0_i32_19 v19
  v20.toNat
def k0_dev6 : Nat :=
  let c0_i32_23 : BitVec 32 := 0#32
  let c5_i32_21 : BitVec 32 := 5#32
  let c1_i32_22 : BitVec 32 := 1#32
  let v21 : BitVec 32 := Scalar.muli c5_i32_21 c1_i32_22
  let v22 : BitVec 32 := Scalar.addi c0_i32_23 v21
  v22.toNat
def k0_dev7 : Nat :=
  let c0_i32_26 : BitVec 32 := 0#32
  let c6_i32 : BitVec 32 := 6#32
  let c1_i32_25 : BitVec 32 := 1#32
  let v23 : BitVec 32 := Scalar.muli c6_i32 c1_i32_25
  let v24 : BitVec 32 := Scalar.addi c0_i32_26 v23
  v24.toNat
def k0_dev8 : Nat :=
  let c0_i32_30 : BitVec 32 := 0#32
  let c7_i32_28 : BitVec 32 := 7#32
  let c1_i32_29 : BitVec 32 := 1#32
  let v25 : BitVec 32 := Scalar.muli c7_i32_28 c1_i32_29
  let v26 : BitVec 32 := Scalar.addi c0_i32_30 v25
  v26.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v27 : BitVec 1 := Scalar.cmpi .eq v2 c1_i32_32
  let v28 : BitVec 32 := Scalar.extui v27
  let c0_i32_39 : BitVec 32 := 0#32
  let v29 : BitVec 1 := Scalar.cmpi .ne v28 c0_i32_39
  v29

def k0_dev9 : Nat :=
  let c0_i32_59 : BitVec 32 := 0#32
  let c0_i32_57 : BitVec 32 := 0#32
  let c1_i32_58 : BitVec 32 := 1#32
  let v38 : BitVec 32 := Scalar.muli c0_i32_57 c1_i32_58
  let v39 : BitVec 32 := Scalar.addi c0_i32_59 v38
  v39.toNat
def k0_dev10 : Nat :=
  let c0_i32_65 : BitVec 32 := 0#32
  let c0_i32_63 : BitVec 32 := 0#32
  let c1_i32_64 : BitVec 32 := 1#32
  let v46 : BitVec 32 := Scalar.muli c0_i32_63 c1_i32_64
  let v47 : BitVec 32 := Scalar.addi c0_i32_65 v46
  v47.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 1 := Scalar.cmpi .eq v2 c0_i32
  let v30 : BitVec 32 := Scalar.extui v3
  let c0_i32_46 : BitVec 32 := 0#32
  let v31 : BitVec 1 := Scalar.cmpi .ne v30 c0_i32_46
  v31

def k0_dev11 : Nat :=
  let c0_i32_132 : BitVec 32 := 0#32
  let c1_i32_130 : BitVec 32 := 1#32
  let c1_i32_131 : BitVec 32 := 1#32
  let v260 : BitVec 32 := Scalar.muli c1_i32_130 c1_i32_131
  let v261 : BitVec 32 := Scalar.addi c0_i32_132 v260
  v261.toNat
def k0_dev12 : Nat :=
  let c0_i32_144 : BitVec 32 := 0#32
  let c4_i32_142 : BitVec 32 := 4#32
  let c1_i32_143 : BitVec 32 := 1#32
  let v270 : BitVec 32 := Scalar.muli c4_i32_142 c1_i32_143
  let v271 : BitVec 32 := Scalar.addi c0_i32_144 v270
  v271.toNat
def k0_dev13 : Nat :=
  let c0_i32_220 : BitVec 32 := 0#32
  let c1_i32_218 : BitVec 32 := 1#32
  let c1_i32_219 : BitVec 32 := 1#32
  let v496 : BitVec 32 := Scalar.muli c1_i32_218 c1_i32_219
  let v497 : BitVec 32 := Scalar.addi c0_i32_220 v496
  v497.toNat
def k0_dev14 : Nat :=
  let c0_i32_232 : BitVec 32 := 0#32
  let c4_i32_230 : BitVec 32 := 4#32
  let c1_i32_231 : BitVec 32 := 1#32
  let v506 : BitVec 32 := Scalar.muli c4_i32_230 c1_i32_231
  let v507 : BitVec 32 := Scalar.addi c0_i32_232 v506
  v507.toNat
def k0_dev15 : Nat :=
  let c0_i32_307 : BitVec 32 := 0#32
  let c1_i32_305 : BitVec 32 := 1#32
  let c1_i32_306 : BitVec 32 := 1#32
  let v732 : BitVec 32 := Scalar.muli c1_i32_305 c1_i32_306
  let v733 : BitVec 32 := Scalar.addi c0_i32_307 v732
  v733.toNat
def k0_dev16 : Nat :=
  let c0_i32_319 : BitVec 32 := 0#32
  let c4_i32_317 : BitVec 32 := 4#32
  let c1_i32_318 : BitVec 32 := 1#32
  let v742 : BitVec 32 := Scalar.muli c4_i32_317 c1_i32_318
  let v743 : BitVec 32 := Scalar.addi c0_i32_319 v742
  v743.toNat
def k0_dev17 : Nat :=
  let c0_i32_394 : BitVec 32 := 0#32
  let c1_i32_392 : BitVec 32 := 1#32
  let c1_i32_393 : BitVec 32 := 1#32
  let v968 : BitVec 32 := Scalar.muli c1_i32_392 c1_i32_393
  let v969 : BitVec 32 := Scalar.addi c0_i32_394 v968
  v969.toNat
def k0_dev18 : Nat :=
  let c0_i32_406 : BitVec 32 := 0#32
  let c4_i32_404 : BitVec 32 := 4#32
  let c1_i32_405 : BitVec 32 := 1#32
  let v978 : BitVec 32 := Scalar.muli c4_i32_404 c1_i32_405
  let v979 : BitVec 32 := Scalar.addi c0_i32_406 v978
  v979.toNat
def k0_dev19 : Nat :=
  let c0_i32_481 : BitVec 32 := 0#32
  let c1_i32_479 : BitVec 32 := 1#32
  let c1_i32_480 : BitVec 32 := 1#32
  let v1204 : BitVec 32 := Scalar.muli c1_i32_479 c1_i32_480
  let v1205 : BitVec 32 := Scalar.addi c0_i32_481 v1204
  v1205.toNat
def k0_dev20 : Nat :=
  let c0_i32_493 : BitVec 32 := 0#32
  let c4_i32_491 : BitVec 32 := 4#32
  let c1_i32_492 : BitVec 32 := 1#32
  let v1214 : BitVec 32 := Scalar.muli c4_i32_491 c1_i32_492
  let v1215 : BitVec 32 := Scalar.addi c0_i32_493 v1214
  v1215.toNat
def k0_dev21 : Nat :=
  let c0_i32_568 : BitVec 32 := 0#32
  let c1_i32_566 : BitVec 32 := 1#32
  let c1_i32_567 : BitVec 32 := 1#32
  let v1440 : BitVec 32 := Scalar.muli c1_i32_566 c1_i32_567
  let v1441 : BitVec 32 := Scalar.addi c0_i32_568 v1440
  v1441.toNat
def k0_dev22 : Nat :=
  let c0_i32_580 : BitVec 32 := 0#32
  let c4_i32_578 : BitVec 32 := 4#32
  let c1_i32_579 : BitVec 32 := 1#32
  let v1450 : BitVec 32 := Scalar.muli c4_i32_578 c1_i32_579
  let v1451 : BitVec 32 := Scalar.addi c0_i32_580 v1450
  v1451.toNat
def k0_dev23 : Nat :=
  let c0_i32_655 : BitVec 32 := 0#32
  let c1_i32_653 : BitVec 32 := 1#32
  let c1_i32_654 : BitVec 32 := 1#32
  let v1676 : BitVec 32 := Scalar.muli c1_i32_653 c1_i32_654
  let v1677 : BitVec 32 := Scalar.addi c0_i32_655 v1676
  v1677.toNat
def k0_dev24 : Nat :=
  let c0_i32_667 : BitVec 32 := 0#32
  let c4_i32_665 : BitVec 32 := 4#32
  let c1_i32_666 : BitVec 32 := 1#32
  let v1686 : BitVec 32 := Scalar.muli c4_i32_665 c1_i32_666
  let v1687 : BitVec 32 := Scalar.addi c0_i32_667 v1686
  v1687.toNat
def k0_dev25 : Nat :=
  let c0_i32_760 : BitVec 32 := 0#32
  let c1_i32_758 : BitVec 32 := 1#32
  let c1_i32_759 : BitVec 32 := 1#32
  let v1928 : BitVec 32 := Scalar.muli c1_i32_758 c1_i32_759
  let v1929 : BitVec 32 := Scalar.addi c0_i32_760 v1928
  v1929.toNat
def k0_dev26 : Nat :=
  let c0_i32_772 : BitVec 32 := 0#32
  let c4_i32_770 : BitVec 32 := 4#32
  let c1_i32_771 : BitVec 32 := 1#32
  let v1938 : BitVec 32 := Scalar.muli c4_i32_770 c1_i32_771
  let v1939 : BitVec 32 := Scalar.addi c0_i32_772 v1938
  v1939.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 1 := Scalar.cmpi .eq v2 c0_i32
  let true_47 : BitVec 1 := 1#1
  let v32 : BitVec 1 := Scalar.xori v3 true_47
  let v33 : BitVec 32 := Scalar.extui v32
  let c0_i32_48 : BitVec 32 := 0#32
  let v34 : BitVec 1 := Scalar.cmpi .ne v33 c0_i32_48
  v34

def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .sge v2 c1_i32_1
  let c5_i32 : BitVec 32 := 5#32
  let v8 : BitVec 1 := Scalar.cmpi .sle v2 c5_i32
  let v9 : BitVec 1 := Scalar.andi v7 v8
  let v46 : BitVec 32 := Scalar.extui v9
  let c0_i32_73 : BitVec 32 := 0#32
  let v47 : BitVec 1 := Scalar.cmpi .ne v46 c0_i32_73
  v47

def k0_dev27 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 1 := Scalar.cmpi .eq v2 c3_i32
  let c7_i32 : BitVec 32 := 7#32
  let c1_i32_0 : BitVec 32 := 1#32
  let v5 : BitVec 32 := Scalar.addi v2 c1_i32_0
  let v6 : BitVec 32 := Scalar.select v4 c7_i32 v5
  let c1_i32_186 : BitVec 32 := 1#32
  let v118 : BitVec 32 := Scalar.muli v6 c1_i32_186
  let v119 : BitVec 32 := Scalar.addi c0_i32_187 v118
  v119.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .sge v2 c1_i32_1
  let c5_i32 : BitVec 32 := 5#32
  let v8 : BitVec 1 := Scalar.cmpi .sle v2 c5_i32
  let v9 : BitVec 1 := Scalar.andi v7 v8
  let v56 : BitVec 32 := Scalar.extui v9
  let c0_i32_89 : BitVec 32 := 0#32
  let v57 : BitVec 1 := Scalar.cmpi .ne v56 c0_i32_89
  v57

def k0_dev28 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 1 := Scalar.cmpi .eq v2 c3_i32
  let c7_i32 : BitVec 32 := 7#32
  let c1_i32_0 : BitVec 32 := 1#32
  let v5 : BitVec 32 := Scalar.addi v2 c1_i32_0
  let v6 : BitVec 32 := Scalar.select v4 c7_i32 v5
  let c1_i32_186 : BitVec 32 := 1#32
  let v118 : BitVec 32 := Scalar.muli v6 c1_i32_186
  let v119 : BitVec 32 := Scalar.addi c0_i32_187 v118
  v119.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .sge v2 c1_i32_1
  let c5_i32 : BitVec 32 := 5#32
  let v8 : BitVec 1 := Scalar.cmpi .sle v2 c5_i32
  let v9 : BitVec 1 := Scalar.andi v7 v8
  let v66 : BitVec 32 := Scalar.extui v9
  let c0_i32_105 : BitVec 32 := 0#32
  let v67 : BitVec 1 := Scalar.cmpi .ne v66 c0_i32_105
  v67

def k0_dev29 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 1 := Scalar.cmpi .eq v2 c3_i32
  let c7_i32 : BitVec 32 := 7#32
  let c1_i32_0 : BitVec 32 := 1#32
  let v5 : BitVec 32 := Scalar.addi v2 c1_i32_0
  let v6 : BitVec 32 := Scalar.select v4 c7_i32 v5
  let c1_i32_186 : BitVec 32 := 1#32
  let v118 : BitVec 32 := Scalar.muli v6 c1_i32_186
  let v119 : BitVec 32 := Scalar.addi c0_i32_187 v118
  v119.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .sge v2 c1_i32_1
  let c5_i32 : BitVec 32 := 5#32
  let v8 : BitVec 1 := Scalar.cmpi .sle v2 c5_i32
  let v9 : BitVec 1 := Scalar.andi v7 v8
  let v76 : BitVec 32 := Scalar.extui v9
  let c0_i32_121 : BitVec 32 := 0#32
  let v77 : BitVec 1 := Scalar.cmpi .ne v76 c0_i32_121
  v77

def k0_dev30 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 1 := Scalar.cmpi .eq v2 c3_i32
  let c7_i32 : BitVec 32 := 7#32
  let c1_i32_0 : BitVec 32 := 1#32
  let v5 : BitVec 32 := Scalar.addi v2 c1_i32_0
  let v6 : BitVec 32 := Scalar.select v4 c7_i32 v5
  let c1_i32_186 : BitVec 32 := 1#32
  let v118 : BitVec 32 := Scalar.muli v6 c1_i32_186
  let v119 : BitVec 32 := Scalar.addi c0_i32_187 v118
  v119.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .sge v2 c1_i32_1
  let c5_i32 : BitVec 32 := 5#32
  let v8 : BitVec 1 := Scalar.cmpi .sle v2 c5_i32
  let v9 : BitVec 1 := Scalar.andi v7 v8
  let v86 : BitVec 32 := Scalar.extui v9
  let c0_i32_137 : BitVec 32 := 0#32
  let v87 : BitVec 1 := Scalar.cmpi .ne v86 c0_i32_137
  v87

def k0_dev31 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 1 := Scalar.cmpi .eq v2 c3_i32
  let c7_i32 : BitVec 32 := 7#32
  let c1_i32_0 : BitVec 32 := 1#32
  let v5 : BitVec 32 := Scalar.addi v2 c1_i32_0
  let v6 : BitVec 32 := Scalar.select v4 c7_i32 v5
  let c1_i32_186 : BitVec 32 := 1#32
  let v118 : BitVec 32 := Scalar.muli v6 c1_i32_186
  let v119 : BitVec 32 := Scalar.addi c0_i32_187 v118
  v119.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .sge v2 c1_i32_1
  let c5_i32 : BitVec 32 := 5#32
  let v8 : BitVec 1 := Scalar.cmpi .sle v2 c5_i32
  let v9 : BitVec 1 := Scalar.andi v7 v8
  let v96 : BitVec 32 := Scalar.extui v9
  let c0_i32_153 : BitVec 32 := 0#32
  let v97 : BitVec 1 := Scalar.cmpi .ne v96 c0_i32_153
  v97

def k0_dev32 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 1 := Scalar.cmpi .eq v2 c3_i32
  let c7_i32 : BitVec 32 := 7#32
  let c1_i32_0 : BitVec 32 := 1#32
  let v5 : BitVec 32 := Scalar.addi v2 c1_i32_0
  let v6 : BitVec 32 := Scalar.select v4 c7_i32 v5
  let c1_i32_186 : BitVec 32 := 1#32
  let v118 : BitVec 32 := Scalar.muli v6 c1_i32_186
  let v119 : BitVec 32 := Scalar.addi c0_i32_187 v118
  v119.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .sge v2 c1_i32_1
  let c5_i32 : BitVec 32 := 5#32
  let v8 : BitVec 1 := Scalar.cmpi .sle v2 c5_i32
  let v9 : BitVec 1 := Scalar.andi v7 v8
  let v106 : BitVec 32 := Scalar.extui v9
  let c0_i32_169 : BitVec 32 := 0#32
  let v107 : BitVec 1 := Scalar.cmpi .ne v106 c0_i32_169
  v107

def k0_dev33 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 1 := Scalar.cmpi .eq v2 c3_i32
  let c7_i32 : BitVec 32 := 7#32
  let c1_i32_0 : BitVec 32 := 1#32
  let v5 : BitVec 32 := Scalar.addi v2 c1_i32_0
  let v6 : BitVec 32 := Scalar.select v4 c7_i32 v5
  let c1_i32_186 : BitVec 32 := 1#32
  let v118 : BitVec 32 := Scalar.muli v6 c1_i32_186
  let v119 : BitVec 32 := Scalar.addi c0_i32_187 v118
  v119.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .sge v2 c1_i32_1
  let c5_i32 : BitVec 32 := 5#32
  let v8 : BitVec 1 := Scalar.cmpi .sle v2 c5_i32
  let v9 : BitVec 1 := Scalar.andi v7 v8
  let v116 : BitVec 32 := Scalar.extui v9
  let c0_i32_185 : BitVec 32 := 0#32
  let v117 : BitVec 1 := Scalar.cmpi .ne v116 c0_i32_185
  v117

def k0_dev34 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 1 := Scalar.cmpi .eq v2 c3_i32
  let c7_i32 : BitVec 32 := 7#32
  let c1_i32_0 : BitVec 32 := 1#32
  let v5 : BitVec 32 := Scalar.addi v2 c1_i32_0
  let v6 : BitVec 32 := Scalar.select v4 c7_i32 v5
  let c1_i32_186 : BitVec 32 := 1#32
  let v118 : BitVec 32 := Scalar.muli v6 c1_i32_186
  let v119 : BitVec 32 := Scalar.addi c0_i32_187 v118
  v119.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x1024 : Shape := ⟨2, ![1024, 1024]⟩
abbrev S1x16384x8x128 : Shape := ⟨4, ![1, 16384, 8, 128]⟩
abbrev S1x2048x8x128 : Shape := ⟨4, ![1, 2048, 8, 128]⟩
abbrev S2048 : Shape := ⟨1, ![2048]⟩
abbrev S2048x1 : Shape := ⟨2, ![2048, 1]⟩
abbrev S16384 : Shape := ⟨1, ![16384]⟩
abbrev S1x16384 : Shape := ⟨2, ![1, 16384]⟩
abbrev S2048x16384 : Shape := ⟨2, ![2048, 16384]⟩
abbrev S_ : Shape := ⟨0, ![]⟩
abbrev S1x8x2048x16384 : Shape := ⟨4, ![1, 8, 2048, 16384]⟩
abbrev S1x1x2048x16384 : Shape := ⟨4, ![1, 1, 2048, 16384]⟩
abbrev S1x8x2048 : Shape := ⟨3, ![1, 8, 2048]⟩
abbrev S1x8x2048x1 : Shape := ⟨4, ![1, 8, 2048, 1]⟩
abbrev S1x1x2048x1 : Shape := ⟨4, ![1, 1, 2048, 1]⟩
abbrev S1x8x128x2048 : Shape := ⟨4, ![1, 8, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x16384x8x128, .f32⟩
  | .hbm, ⟨3, _⟩ => ⟨S1x16384x8x128, .f32⟩
  | .hbm, ⟨4, _⟩ => ⟨S1024x1024, .f32⟩
  | .hbm, ⟨5, _⟩ => ⟨S1x2048x1024, .f32⟩
  | .hbm, ⟨6, _⟩ => ⟨S1x2048x8x128, .f32⟩
  | .hbm, ⟨7, _⟩ => ⟨S2048, .i32⟩
  | .hbm, ⟨8, _⟩ => ⟨S2048x1, .i32⟩
  | .hbm, ⟨9, _⟩ => ⟨S16384, .i32⟩
  | .hbm, ⟨10, _⟩ => ⟨S1x16384, .i32⟩
  | .hbm, ⟨11, _⟩ => ⟨S2048x16384, .i32⟩
  | .hbm, ⟨12, _⟩ => ⟨S2048x16384, .i32⟩
  | .hbm, ⟨13, _⟩ => ⟨S2048x16384, .i32⟩
  | .hbm, ⟨14, _⟩ => ⟨S2048x16384, .i32⟩
  | .hbm, ⟨15, _⟩ => ⟨S_, .i32⟩
  | .hbm, ⟨16, _⟩ => ⟨S2048x16384, .i32⟩
  | .hbm, ⟨17, _⟩ => ⟨S2048x16384, .i1⟩
  | .hbm, ⟨18, _⟩ => ⟨S1x8x2048x16384, .f32⟩
  | .hbm, ⟨19, _⟩ => ⟨S_, .f32⟩
  | .hbm, ⟨20, _⟩ => ⟨S1x8x2048x16384, .f32⟩
  | .hbm, ⟨21, _⟩ => ⟨S1x8x2048x16384, .f32⟩
  | .hbm, ⟨22, _⟩ => ⟨S1x1x2048x16384, .i1⟩
  | .hbm, ⟨23, _⟩ => ⟨S_, .f32⟩
  | .hbm, ⟨24, _⟩ => ⟨S_, .f32⟩
  | .hbm, ⟨25, _⟩ => ⟨S1x8x2048x16384, .i1⟩
  | .hbm, ⟨26, _⟩ => ⟨S1x8x2048x16384, .f32⟩
  | .hbm, ⟨27, _⟩ => ⟨S1x8x2048x16384, .f32⟩
  | .hbm, ⟨28, _⟩ => ⟨S_, .f32⟩
  | .hbm, ⟨29, _⟩ => ⟨S1x8x2048, .f32⟩
  | .hbm, ⟨30, _⟩ => ⟨S1x8x2048x1, .f32⟩
  | .hbm, ⟨31, _⟩ => ⟨S1x8x2048x16384, .f32⟩
  | .hbm, ⟨32, _⟩ => ⟨S1x8x2048x16384, .f32⟩
  | .hbm, ⟨33, _⟩ => ⟨S1x8x2048x16384, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S1x8x2048, .f32⟩
  | .hbm, ⟨39, _⟩ => ⟨S1x8x2048x1, .f32⟩
  | .hbm, ⟨40, _⟩ => ⟨S_, .f32⟩
  | .hbm, ⟨41, _⟩ => ⟨S_, .f32⟩
  | .hbm, ⟨42, _⟩ => ⟨S1x8x2048x1, .i1⟩
  | .hbm, ⟨43, _⟩ => ⟨S1x8x2048x1, .f32⟩
  | .hbm, ⟨44, _⟩ => ⟨S1x8x2048x1, .f32⟩
  | .hbm, ⟨45, _⟩ => ⟨S1x8x2048x16384, .f32⟩
  | .hbm, ⟨46, _⟩ => ⟨S1x8x2048x16384, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S1x8x2048x16384, .i1⟩
  | .hbm, ⟨51, _⟩ => ⟨S1x8x2048x16384, .f32⟩
  | .hbm, ⟨52, _⟩ => ⟨S1x8x2048x16384, .f32⟩
  | .hbm, ⟨53, _⟩ => ⟨S1x8x128x2048, .f32⟩
  | .hbm, ⟨54, _⟩ => ⟨S1x2048x8x128, .f32⟩
  | .hbm, ⟨55, _⟩ => ⟨S1x2048x1024, .f32⟩
  | .hbm, ⟨56, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Value.lean ====
module

public import proofs.«01_k».proof.Proof.Gen.KernelIdeal
public import proofs.«01_k».proof.Proof.Gen.KernelIdeal.Skeleton
public import proofs.«01_k».proof.Proof.Gen.KernelIdeal.Launch

@[expose] public section

set_option maxRecDepth 16384

/-!
# What device 0 computes

The result of the root device as one function of the arrays it reads, in the kernel's own operations: a row block of 256
rows is eight heads over a window of 512 keys, joined and multiplied with the output weights. The eight blocks differ in
their offsets only; the last one's window ends in the 128 rows another device sent.
-/

noncomputable section

namespace Cert.KernelIdeal.Run

open Cert.KernelIdeal Cert.KernelIdeal.Gen
open Idealize.ShloMosaic Idealize.ShloMosaic.TcCoe

variable {F : FTy → Type} [FloatOps F] [Named F]

/-! ## The memrefs -/

abbrev xM : Memref sig .tc .vmem S1x2048x1024 .f32 := Memref.whole cc0_stg0_0
abbrev wqM : Memref sig .tc .vmem S1024x1024 .f32 := Memref.whole cc0_stg1_0
abbrev kM : Memref sig .tc .vmem S1x2048x8x128 .f32 := Memref.whole cc0_stg2_0
abbrev vM : Memref sig .tc .vmem S1x2048x8x128 .f32 := Memref.whole cc0_stg3_0
abbrev woM : Memref sig .tc .vmem S1024x1024 .f32 := Memref.whole cc0_stg4_0
abbrev oM : Memref sig .tc .vmem S1x2048x1024 .f32 := Memref.whole cc0_stg5_0
abbrev ktM : Memref sig .tc .vmem S128x8x128 .f32 := Memref.whole cc0_scratch0
abbrev vtM : Memref sig .tc .vmem S128x8x128 .f32 := Memref.whole cc0_scratch1

/-- The first 128 rows of a device's keys, and of its values: what device 1 sends. -/
abbrev kHead : Memref sig .tc .vmem S128x8x128 .f32 :=
  (kM.slice (Rect.unit (s := S1x2048x8x128) ![0, 0, 0, 0] S1x128x8x128.size inb_S1x2048x8x128_S1x128x8x128_0_0_0_0) (fun _ => rfl)).squeeze S128x8x128 squeezes_S1x128x8x128_S128x8x128
abbrev vHead : Memref sig .tc .vmem S128x8x128 .f32 :=
  (vM.slice (Rect.unit (s := S1x2048x8x128) ![0, 0, 0, 0] S1x128x8x128.size inb_S1x2048x8x128_S1x128x8x128_0_0_0_0) (fun _ => rfl)).squeeze S128x8x128 squeezes_S1x128x8x128_S128x8x128

/-! ## One block -/

/-- Which of the 512 window keys are within 128 of each of the 256 rows, the rows starting at `qo`, the window at `ko`. -/
def maskOf (qo ko : BitVec 32) : IVec S256x512 1 :=
  cmpi .sle (absi (subi (addi (broadcast S256x512 qo) (iota .tc S256x512 32 [0] iota_S256x512_d0_w32))
    (addi (broadcast S256x512 ko) (iota .tc S256x512 32 [1] iota_S256x512_d1_w32)))) (broadcast S256x512 128#32)

/-- The scaled and masked scores of one head. -/
def scoreOf (q : FVec F S256x1024 .f32) (kk : FVec F S512x8x128 .f32) (mk : IVec S256x512 1)
    (o h : ℕ) (hq : S256x1024.Slices ![0, o] S256x128) (hk : S512x8x128.Slices ![0, h, 0] S512x1x128) : FVec F S256x512 .f32 :=
  select mk
    (mulf (matmul dot_S256x128_S512x128_S256x512_1_1_0_0_n_n none
        (truncf .bf16 (extractStridedSlice S256x128 ![0, o] q hq) bitsLt_bf16_f32)
        (truncf .bf16 (shapeCast S512x128 (extractStridedSlice S512x1x128 ![0, h, 0] kk hk) shapeCasts_S512x1x128_S512x128) bitsLt_bf16_f32)
        (constant S256x512 .f32 0x00000000#32))
      (broadcast S256x512 (Scalar.ofBits .f32 0x3DB504F3#32)))
    (broadcast S256x512 (Named.named κ "mask" 0xF149F2CA#32))

/-- The exponentials of the scores less their row's maximum. -/
def expOf (s : FVec F S256x512 .f32) : FVec F S256x512 .f32 :=
  exp (subf s (broadcastTo S256x512 (shapeCast S256x1
    (multiReduction .maximumf [1] S256 s 0xFF800000#32 reduces_S256x512_S256 (.inl rfl) rfl) shapeCasts_S256_S256x1) broadcasts_S256x1_S256x512))

/-- Each row divided by its sum. -/
def normOf (p : FVec F S256x512 .f32) : FVec F S256x512 .f32 :=
  divf p (broadcastTo S256x512 (shapeCast S256x1
    (multiReduction .add [1] S256 p 0x00000000#32 reduces_S256x512_S256 (.inl rfl) rfl) shapeCasts_S256_S256x1) broadcasts_S256x1_S256x512)

/-- One head: the normalised weights times the window's values. -/
def headOf (q : FVec F S256x1024 .f32) (kk vv : FVec F S512x8x128 .f32) (mk : IVec S256x512 1)
    (o h : ℕ) (hq : S256x1024.Slices ![0, o] S256x128) (hk : S512x8x128.Slices ![0, h, 0] S512x1x128) : FVec F S256x128 .f32 :=
  matmul dot_S256x512_S512x128_S256x128_1_0_0_1_n_n none
    (truncf .bf16 (normOf (expOf (scoreOf q kk mk o h hq hk))) bitsLt_bf16_f32)
    (truncf .bf16 (shapeCast S512x128 (extractStridedSlice S512x1x128 ![0, h, 0] vv hk) shapeCasts_S512x1x128_S512x128) bitsLt_bf16_f32)
    (constant S256x128 .f32 0x00000000#32)

/-- A block of queries. -/
def queryOf (xb : Vec F S1x256x1024 .f32) (wq : Vec F S1024x1024 .f32) : FVec F S256x1024 .f32 :=
  matmul dot_S256x1024_S1024x1024_S256x1024_1_0_0_1_n_n none
    (truncf .bf16 (shapeCast S256x1024 xb shapeCasts_S1x256x1024_S256x1024) bitsLt_bf16_f32)
    (truncf .bf16 (shapeCast S1024x1024 wq shapeCasts_S1024x1024_S1024x1024) bitsLt_bf16_f32)
    (constant S256x1024 .f32 0x00000000#32)

/-- The eight heads side by side. -/
def headsOf (q : FVec F S256x1024 .f32) (kk vv : FVec F S512x8x128 .f32) (mk : IVec S256x512 1) : FVec F S256x1024 .f32 :=
  concatenate S256x1024 1 [⟨S256x128, headOf q kk vv mk 0 0 slices_S256x1024_o0_0_S256x128 slices_S512x8x128_o0_0_0_S512x1x128⟩,
      ⟨S256x128, headOf q kk vv mk 128 1 slices_S256x1024_o0_128_S256x128 slices_S512x8x128_o0_1_0_S512x1x128⟩,
      ⟨S256x128, headOf q kk vv mk 256 2 slices_S256x1024_o0_256_S256x128 slices_S512x8x128_o0_2_0_S512x1x128⟩,
      ⟨S256x128, headOf q kk vv mk 384 3 slices_S256x1024_o0_384_S256x128 slices_S512x8x128_o0_3_0_S512x1x128⟩,
      ⟨S256x128, headOf q kk vv mk 512 4 slices_S256x1024_o0_512_S256x128 slices_S512x8x128_o0_4_0_S512x1x128⟩,
      ⟨S256x128, headOf q kk vv mk 640 5 slices_S256x1024_o0_640_S256x128 slices_S512x8x128_o0_5_0_S512x1x128⟩,
      ⟨S256x128, headOf q kk vv mk 768 6 slices_S256x1024_o0_768_S256x128 slices_S512x8x128_o0_6_0_S512x1x128⟩,
      ⟨S256x128, headOf q kk vv mk 896 7 slices_S256x1024_o0_896_S256x128 slices_S512x8x128_o0_7_0_S512x1x128⟩]
    concatenates_S256x128_S256x128_S256x128_S256x128_S256x128_S256x128_S256x128_S256x128_S256x1024_d1

/-- A block of the result. -/
def blkOf (qo ko : BitVec 32) (xb : Vec F S1x256x1024 .f32) (kk vv : FVec F S512x8x128 .f32) (wq wo : Vec F S1024x1024 .f32) :
    FVec F S1x256x1024 .f32 :=
  shapeCast S1x256x1024 (matmul dot_S256x1024_S1024x1024_S256x1024_1_0_0_1_n_n none
    (truncf .bf16 (headsOf (queryOf xb wq) kk vv (maskOf qo ko)) bitsLt_bf16_f32)
    (truncf .bf16 (shapeCast S1024x1024 wo shapeCasts_S1024x1024_S1024x1024) bitsLt_bf16_f32)
    (constant S256x1024 .f32 0x00000000#32)) shapeCasts_S256x1024_S1x256x1024

/-! ## What a block reads -/

/-- The arrays the root reads: its own five, and the first 128 rows of device 1's keys and values. -/
structure Ins (F : FTy → Type) where
  x : Vec F S1x2048x1024 .f32
  wq : Vec F S1024x1024 .f32
  k : Vec F S1x2048x8x128 .f32
  v : Vec F S1x2048x8x128 .f32
  wo : Vec F S1024x1024 .f32
  kt : Vec F S128x8x128 .f32
  vt : Vec F S128x8x128 .f32

theorem inb_rows (r n : ℕ) (h : r + n ≤ 2048) : ∀ a, (![0, r, 0] : Fin 3 → ℕ) a + (![1, n, 1024] : Fin 3 → ℕ) a ≤ S1x2048x1024.size a := by
  intro a; fin_cases a
  · exact Nat.le_refl 1
  · exact h
  · exact Nat.le_refl 1024

theorem inb_keys (r n : ℕ) (h : r + n ≤ 2048) : ∀ a, (![0, r, 0, 0] : Fin 4 → ℕ) a + (![1, n, 8, 128] : Fin 4 → ℕ) a ≤ S1x2048x8x128.size a := by
  intro a; fin_cases a
  · exact Nat.le_refl 1
  · exact h
  · exact Nat.le_refl 8
  · exact Nat.le_refl 128

/-- Rows `r … r + 255` of a row array. -/
def rowsAt (r : ℕ) (h : r + 256 ≤ 2048) (f : Vec F S1x2048x1024 .f32) : Vec F S1x256x1024 .f32 :=
  xM.view.readAt (Elt F) (Rect.unit (s := S1x2048x1024) ![0, r, 0] S1x256x1024.size (inb_rows r 256 h)).toLoadRect f

/-- Rows `r … r + 511` of a key or value array. -/
def keysAt (r : ℕ) (h : r + 512 ≤ 2048) (f : Vec F S1x2048x8x128 .f32) : FVec F S512x8x128 .f32 :=
  shapeCast S512x8x128 (kM.view.readAt (Elt F) (Rect.unit (s := S1x2048x8x128) ![0, r, 0, 0] S1x512x8x128.size (inb_keys r 512 h)).toLoadRect f)
    shapeCasts_S1x512x8x128_S512x8x128

/-- The last window: rows 1664 … 2047, then the 128 rows that came from device 1. -/
def keysLast (f : Vec F S1x2048x8x128 .f32) (t : Vec F S128x8x128 .f32) : FVec F S512x8x128 .f32 :=
  concatenate S512x8x128 0 [⟨S384x8x128, shapeCast S384x8x128
      (kM.view.readAt (Elt F) (Rect.unit (s := S1x2048x8x128) ![0, 1664, 0, 0] S1x384x8x128.size (inb_keys 1664 384 (by decide))).toLoadRect f)
      shapeCasts_S1x384x8x128_S384x8x128⟩, ⟨S128x8x128, t⟩] concatenates_S384x8x128_S128x8x128_S512x8x128_d0

/-- Where block `k`'s window starts. -/
def wo0 (k : ℕ) : ℕ := 256 * k - 128

/-- Block `k` of the root's result. -/
def blk (I : Ins F) (k : Fin 8) : FVec F S1x256x1024 .f32 :=
  if h : k.val < 7 then
    blkOf (BitVec.ofNat 32 (256 * k.val)) (BitVec.ofNat 32 (wo0 k.val)) (rowsAt (256 * k.val) (by omega) I.x)
      (keysAt (wo0 k.val) (by unfold wo0; omega) I.k) (keysAt (wo0 k.val) (by unfold wo0; omega) I.v) I.wq I.wo
  else
    blkOf (BitVec.ofNat 32 1792) (BitVec.ofNat 32 1664) (rowsAt 1792 (by decide) I.x) (keysLast I.k I.kt) (keysLast I.v I.vt) I.wq I.wo

/-- The root's result. -/
def outOf (I : Ins F) : Vec F S1x2048x1024 .f32 := fun j =>
  blk I ⟨(j 1).val / 256, by have : (j 1).val < 2048 := (j 1).isLt; omega⟩
    (fun a => match a with | ⟨0, _⟩ => (⟨0, Nat.one_pos⟩ : Fin 1) | ⟨1, _⟩ => (⟨(j 1).val % 256, Nat.mod_lt _ (by decide)⟩ : Fin 256) | ⟨2, _⟩ => j 2)

end Cert.KernelIdeal.Run
-- ==== Proof.Common.lean ====
module

public import proofs.«01_k».proof.Proof.Value
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring

@[expose] public section

set_option maxRecDepth 16384

/-!
# The protocol of one launch

Every device signals every device's barrier and waits for eight. With its signal a device other than the root hands its
output buffer to the device that will write it, and the root hands its two landing buffers to device 1. Then device 1
sends the root the first 128 rows of its keys and values; the root sends each block of the result to devices 1 and 4;
every device with a successor passes each block on. One round per semaphore.
-/

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The tree: 0 → 1 → 2 → 3 → 7 and 0 → 4 → 5 → 6 -/

/-- Which device a device's blocks come from, and which it passes them to (the two leaves' entries are not used). -/
def pr : Dev nD → Dev nD := ![0, 0, 1, 2, 0, 4, 5, 3]
def nx : Dev nD → Dev nD := ![1, 2, 3, 7, 5, 6, 0, 0]
/-- How far a device is from the root. -/
def depth : Dev nD → ℕ := ![0, 1, 2, 3, 1, 2, 3, 4]

/-! ## The semaphores -/

/-- A device's semaphores: the barrier; send (block, direction) and receive (block); the two of the keys' and the values'
    128 rows, sending and receiving. -/
inductive Cl where
  | bar
  | send (k : Fin 8) (j : Fin 2)
  | recv (k : Fin 8)
  | tsend (i : Fin 2)
  | trecv (i : Fin 2)
  deriving DecidableEq

/-- A semaphore's place in a sum of finite types. -/
def clEquiv : Cl ≃ Unit ⊕ (Fin 8 × Fin 2) ⊕ Fin 8 ⊕ Fin 2 ⊕ Fin 2 where
  toFun
    | .bar => .inl ()
    | .send k j => .inr (.inl (k, j))
    | .recv k => .inr (.inr (.inl k))
    | .tsend i => .inr (.inr (.inr (.inl i)))
    | .trecv i => .inr (.inr (.inr (.inr i)))
  invFun
    | .inl _ => .bar
    | .inr (.inl (k, j)) => .send k j
    | .inr (.inr (.inl k)) => .recv k
    | .inr (.inr (.inr (.inl i))) => .tsend i
    | .inr (.inr (.inr (.inr i))) => .trecv i
  left_inv x := by cases x <;> rfl
  right_inv x := by rcases x with _ | ⟨_, _⟩ | _ | _ | _ <;> rfl

instance : Fintype Cl := Fintype.ofEquiv _ clEquiv.symm

/-- The runtime's barrier semaphore of collective id 0. -/
abbrev barS : Sem sig := (SemArray.scalar (sig.barrier 0 rfl) : Sems sig S_).sem

theorem lt_send (k : Fin 8) (j : Fin 2) : 6 + 2 * k.val + j.val < 34 := by omega
theorem lt_recv (k : Fin 8) : 22 + k.val < 34 := by omega
theorem lt_tsend (i : Fin 2) : 30 + i.val < 34 := by omega
theorem lt_trecv (i : Fin 2) : 32 + i.val < 34 := by omega

/-- The semaphore at each place. -/
def csem : Cl → SemLoc sig
  | .bar => .reg barS
  | .send k j => .dma (⟨6 + 2 * k.val + j.val, lt_send k j⟩ : Fin 34)
  | .recv k => .dma (⟨22 + k.val, lt_recv k⟩ : Fin 34)
  | .tsend i => .dma (⟨30 + i.val, lt_tsend i⟩ : Fin 34)
  | .trecv i => .dma (⟨32 + i.val, lt_trecv i⟩ : Fin 34)

/-- The place of each semaphore (the staging semaphores have none of their own). -/
def idx : SemLoc sig → Cl
  | .reg _ => .bar
  | .dma q =>
    if q.val < 22 then .send (Fin.ofNat 8 ((q.val - 6) / 2)) (Fin.ofNat 2 ((q.val - 6) % 2))
    else if q.val < 30 then .recv (Fin.ofNat 8 (q.val - 22))
    else if q.val < 32 then .tsend (Fin.ofNat 2 (q.val - 30))
    else .trecv (Fin.ofNat 2 (q.val - 32))

theorem idx_csem : ∀ x, idx (csem x) = x
  | .bar => rfl
  | .send k j => by revert k j; decide
  | .recv k => by revert k; decide
  | .tsend i => by revert i; decide
  | .trecv i => by revert i; decide

theorem csem_inj : Function.Injective csem := fun x y h => by rw [← idx_csem x, h, idx_csem]

abbrev kcell (p : Dev nD × Cl) : GSem nD τ sig := ((p.1 : Thread nD τ), csem p.2)

theorem kcell_inj : Function.Injective kcell := fun x y h => by
  have h1 : (x.1 : Thread nD τ) = (y.1 : Thread nD τ) := congrArg Prod.fst h
  have h2 : csem x.2 = csem y.2 := congrArg Prod.snd h
  exact Prod.ext (congrArg (fun t : Thread nD τ => t.1) h1) (csem_inj h2)

/-! ## The buffers -/

theorem blk_inb (k : Fin 8) : 256 * k.val + 256 ≤ 2048 := by omega

/-- Row block `k` of a device's output buffer. -/
abbrev blkM (k : Fin 8) : Memref sig .tc .vmem S256x1024 .f32 :=
  (oM.slice (Rect.unit (s := S1x2048x1024) ![0, 256 * k.val, 0] S1x256x1024.size (inb_rows (256 * k.val) 256 (blk_inb k))) (fun _ => rfl)).squeeze
    S256x1024 squeezes_S1x256x1024_S256x1024

/-- What a transfer of one block pays, and one of the 128 rows. -/
abbrev NB : ℕ := (blkM 0).view.dmaCredit
abbrev NT : ℕ := kHead.view.dmaCredit
theorem NB_pos : 0 < NB := View.dmaCredit_pos _ (by decide)
theorem NT_pos : 0 < NT := View.dmaCredit_pos _ (by decide)
theorem amount_blk (k : Fin 8) : (blkM k).view.dmaCredit = NB := rfl

/-- What a device's staging buffers hold. -/
def xs0 (c : Dev nD) : (cc0_stg0_0 : Ref sig .tc).ty.Contents (Elt F) :=
  (win0_0.blk (0 : Fin 1)).view.read (Elt F) (m ((c : Thread nD τ).loc main_arg0))
def xs1 (c : Dev nD) : (cc0_stg1_0 : Ref sig .tc).ty.Contents (Elt F) :=
  (win0_1.blk (0 : Fin 1)).view.read (Elt F) (m ((c : Thread nD τ).loc main_arg1))
def xs2 (c : Dev nD) : (cc0_stg2_0 : Ref sig .tc).ty.Contents (Elt F) :=
  (win0_2.blk (0 : Fin 1)).view.read (Elt F) (m ((c : Thread nD τ).loc main_arg2))
def xs3 (c : Dev nD) : (cc0_stg3_0 : Ref sig .tc).ty.Contents (Elt F) :=
  (win0_3.blk (0 : Fin 1)).view.read (Elt F) (m ((c : Thread nD τ).loc main_arg3))
def xs4 (c : Dev nD) : (cc0_stg4_0 : Ref sig .tc).ty.Contents (Elt F) :=
  (win0_4.blk (0 : Fin 1)).view.read (Elt F) (m ((c : Thread nD τ).loc main_arg4))

/-- The 128 rows of keys and of values the root receives. -/
def ktv : Vec F S128x8x128 .f32 := kHead.view.read (Elt F) (xs2 m 1)
def vtv : Vec F S128x8x128 .f32 := vHead.view.read (Elt F) (xs3 m 1)

/-- What the root computes from, and its result. -/
def insOf : Ins F := ⟨xs0 m 0, xs1 m 0, xs2 m 0, xs3 m 0, xs4 m 0, ktv m, vtv m⟩
def OUT : (cc0_stg5_0 : Ref sig .tc).ty.Contents (Elt F) := outOf (insOf m)

/-- Block `k` of device `c`'s output buffer, at contents `f`. -/
def oBlk (c : Dev nD) (k : Fin 8) (q : PosShare TreeShare) (f : (cc0_stg5_0 : Ref sig .tc).ty.Contents (Elt F)) : sProp 𝕄 :=
  (blkM k).view.loc (c : Thread nD τ) ↦[(blkM k).view.set]{q} f
/-- The root's two landing buffers. -/
def ktPts (f : (cc0_scratch0 : Ref sig .tc).ty.Contents (Elt F)) : sProp 𝕄 := ktM.view.loc ((0 : Dev nD) : Thread nD τ) ↦[ktM.view.set]{fullShare} f
def vtPts (f : (cc0_scratch1 : Ref sig .tc).ty.Contents (Elt F)) : sProp 𝕄 := vtM.view.loc ((0 : Dev nD) : Thread nD τ) ↦[vtM.view.set]{fullShare} f
/-- Device 1's 128 rows. -/
def khPts : sProp 𝕄 := kHead.view.loc ((1 : Dev nD) : Thread nD τ) ↦[kHead.view.set]{fullShare} (xs2 m 1)
def vhPts : sProp 𝕄 := vHead.view.loc ((1 : Dev nD) : Thread nD τ) ↦[vHead.view.set]{fullShare} (xs3 m 1)

instance oBlk_storable (c : Dev nD) (k : Fin 8) (q) (f) : BI.Storable (upEmb : UEmb _ 𝕄) (oBlk (F := F) c k q f) := by unfold oBlk; infer_instance
instance ktPts_storable (f) : BI.Storable (upEmb : UEmb _ 𝕄) (ktPts (F := F) f) := by unfold ktPts; infer_instance
instance vtPts_storable (f) : BI.Storable (upEmb : UEmb _ 𝕄) (vtPts (F := F) f) := by unfold vtPts; infer_instance
instance khPts_storable : BI.Storable (upEmb : UEmb _ 𝕄) (khPts (F := F) m) := by unfold khPts; infer_instance
instance vhPts_storable : BI.Storable (upEmb : UEmb _ 𝕄) (vhPts (F := F) m) := by unfold vhPts; infer_instance

/-! ## The schedule -/

/-- What device `d`'s barrier signal hands device `c`. -/
def barPay (c d : Dev nD) : sProp 𝕄 :=
  if d = 0 then (if c = 1 then iprop((∃ f, ktPts f) ∗ (∃ f, vtPts f)) else iprop(emp))
  else if c = pr d then iprop(∃ f, bigSep Finset.univ fun k => oBlk d k fullShare f) else iprop(emp)

instance barPay_storable (c d : Dev nD) : BI.Storable (upEmb : UEmb _ 𝕄) (barPay (F := F) c d) := by
  unfold barPay; (repeat' split) <;> infer_instance

/-- The root sends a block twice, each time from half of its share. -/
def shareOf (c : Dev nD) (j : Fin 2) : PosShare TreeShare :=
  if c = 0 then (if j = 0 then fullShare.left else fullShare.right) else fullShare

/-- What each duty pays with. -/
def payK (c : Dev nD) : Cl → Fin 8 → sProp 𝕄
  | .bar, d => barPay c d
  | .send k j, _ => oBlk c k (shareOf c j) (OUT m)
  | .recv k, _ => oBlk c k fullShare (OUT m)
  | .tsend i, _ => if i = 0 then khPts m else vhPts m
  | .trecv i, _ => if i = 0 then ktPts (ktv m) else vtPts (vtv m)

instance payK_storable (c : Dev nD) (k : Cl) (d : Fin 8) : BI.Storable (upEmb : UEmb _ 𝕄) (payK (F := F) m c k d) := by
  cases k <;> unfold payK
  · infer_instance
  · infer_instance
  · infer_instance
  · rename_i i
    by_cases h : i = 0
    · simp only [h, if_true]; infer_instance
    · simp only [h, if_false]; infer_instance
  · rename_i i
    by_cases h : i = 0
    · simp only [h, if_true]; infer_instance
    · simp only [h, if_false]; infer_instance

/-- Which devices send in which direction. -/
def sends (c : Dev nD) (j : Fin 2) : Prop := c = 0 ∨ (c ≠ 6 ∧ c ≠ 7 ∧ j = 0)
instance (c : Dev nD) (j : Fin 2) : Decidable (sends c j) := by unfold sends; infer_instance

/-- The duties of a semaphore's one round: eight at a barrier; one where a transfer is made; none elsewhere. -/
def dutK (c : Dev nD) : Cl → Finset (Fin 8)
  | .bar => Finset.univ
  | .send _ j => if sends c j then {0} else ∅
  | .recv _ => if c ≠ 0 then {0} else ∅
  | .tsend _ => if c = 1 then {0} else ∅
  | .trecv _ => if c = 0 then {0} else ∅

/-- What a duty pays in. -/
def amt : Cl → ℕ
  | .bar => 1
  | .send _ _ => NB
  | .recv _ => NB
  | .tsend _ => NT
  | .trecv _ => NT

theorem amt_pos : ∀ x, 0 < amt x
  | .bar => Nat.one_pos
  | .send _ _ => NB_pos
  | .recv _ => NB_pos
  | .tsend _ => NT_pos
  | .trecv _ => NT_pos

abbrev IsCell (g : GSem nD τ sig) : Prop := g.1.2 = .tc ∧ csem (idx g.2) = g.2

def rd : Rounds.Schedule (GSem nD τ sig) (Fin 8) 𝕄 where
  duties g r := if r = 0 ∧ IsCell g then dutK g.1.1 (idx g.2) else ∅
  unitless _ := False
  amount g _ _ := amt (idx g.2)
  payload g _ d := payK m g.1.1 (idx g.2) d
  amount_pos g _ _ _ := amt_pos _

instance rd_payload_storable (g : GSem nD τ sig) (r : ℕ) (d : Fin 8) :
    BI.Storable (upEmb : UEmb _ 𝕄) ((rd (F := F) m).payload g r d) := by
  show BI.Storable upEmb (payK m g.1.1 (idx g.2) d)
  infer_instance

section Sched
variable (p : Dev nD × Cl)

theorem duties_eq : (rd (F := F) m).duties (kcell p) 0 = dutK p.1 p.2 := by
  show (if (0 : ℕ) = 0 ∧ IsCell (kcell p) then dutK p.1 (idx (csem p.2)) else ∅) = _
  rw [if_pos ⟨rfl, rfl, by rw [idx_csem]⟩, idx_csem]
theorem amount_eq (d : Fin 8) : (rd (F := F) m).amount (kcell p) 0 d = amt p.2 := by
  show amt (idx (csem p.2)) = _
  rw [idx_csem]
theorem payload_eq (d : Fin 8) : (rd (F := F) m).payload (kcell p) 0 d = payK m p.1 p.2 d := by
  show payK m p.1 (idx (csem p.2)) d = _
  rw [idx_csem]
theorem duties_later (g : GSem nD τ sig) : ∀ r, 1 ≤ r → (rd (F := F) m).duties g r = ∅ :=
  fun r hr => if_neg fun h => by omega
theorem duties_none (h : dutK p.1 p.2 = ∅) : ∀ r, 0 ≤ r → (rd (F := F) m).duties (kcell p) r = ∅ := fun r _ => by
  rcases Nat.eq_zero_or_pos r with rfl | hr
  · rw [duties_eq, h]
  · exact duties_later m _ r hr
theorem expect_eq : (rd (F := F) m).expect (kcell p) 0 = (dutK p.1 p.2).card * amt p.2 := by
  unfold Schedule.expect Schedule.amountOf
  rw [duties_eq, Finset.sum_congr rfl fun d _ => amount_eq m p d, Finset.sum_const, smul_eq_mul]
theorem rest_eq : bigSep ((rd (F := F) m).duties (kcell p) 0 \ ∅) (fun d => (rd (F := F) m).payload (kcell p) 0 d)
    = bigSep (dutK p.1 p.2) (fun d => payK m p.1 p.2 d) := by
  rw [Finset.sdiff_empty, duties_eq]
  exact congrArg _ (funext fun d => payload_eq m p d)
end Sched

/-! ## What is owed -/

abbrev devs : List (Dev nD) := [0, 1, 2, 3, 4, 5, 6, 7]
abbrev blks : List (Fin 8) := [0, 1, 2, 3, 4, 5, 6, 7]

/-- What a device pays other devices after its barrier, in the order it pays. -/
def restL (c : Dev nD) : List (Dev nD × Cl) :=
  if c = 0 then blks.flatMap fun k => [(1, .recv k), (4, .recv k)]
  else if c = 1 then (0, .trecv 0) :: (0, .trecv 1) :: blks.map fun k => (2, .recv k)
  else if c = 6 ∨ c = 7 then []
  else blks.map fun k => (nx c, .recv k)

/-- All it pays. -/
def owedL (c : Dev nD) : List (Dev nD × Cl) := (devs.map fun d => (d, .bar)) ++ restL c

/-- The sum of what a list of payments comes to. -/
def Osum : List (Dev nD × Cl) → CellTallies nD τ sig Unit
  | [] => 0
  | x :: l => Osum l + tallyAt (kcell x) () (amt x.2)

theorem Osum_pos : ∀ {l : List (Dev nD × Cl)} {g : GSem nD τ sig} {u : Unit}, 0 < Osum l g u → ∃ x ∈ l, g = kcell x
  | [], g, u, h => absurd h (Nat.lt_irrefl 0)
  | x :: l, g, u, h => by
    by_cases hx : g = kcell x
    · exact ⟨x, List.mem_cons_self, hx⟩
    · unfold Osum at h
      rw [Pi.add_apply, Finsupp.add_apply, tallyAt_apply, if_neg (fun h' => hx h'.1), Nat.add_zero] at h
      obtain ⟨y, hy, e⟩ := Osum_pos h
      exact ⟨y, List.mem_cons_of_mem _ hy, e⟩

theorem Osum_at (y : Dev nD × Cl) : ∀ l : List (Dev nD × Cl), Osum l (kcell y) () = l.count y * amt y.2
  | [] => by rw [List.count_nil, Nat.zero_mul]; rfl
  | x :: l => by
    unfold Osum
    rw [Pi.add_apply, Finsupp.add_apply, Osum_at y l, tallyAt_apply, List.count_cons]
    by_cases h : x = y
    · subst h; rw [if_pos ⟨rfl, rfl⟩, if_pos (by simp), Nat.add_mul, Nat.one_mul]
    · rw [if_neg (fun h' => h (kcell_inj h'.1.symm)), if_neg (by simpa using h), Nat.add_zero, Nat.add_zero]

/-! ## The levels -/

def L (g : GSem nD τ sig) : Finset Unit := if g.1.2 = .tc then {()} else ∅
/-- Staging and send semaphores at 0, barriers at 1, the 128 rows' at 2, a device's receive semaphores above those of the
    device its blocks come from. -/
def lvS (c : Dev nD) : SemLoc sig → ℕ
  | .reg _ => 1
  | .dma q => if q.val < 22 then 0 else if q.val < 30 then 3 + depth c else if q.val < 32 then 0 else 2
def lv (g : GSem nD τ sig) (_ : Unit) : ℕ := lvS g.1.1 g.2

/-- The level of a cell by its place. -/
def lvK (c : Dev nD) : Cl → ℕ
  | .bar => 1
  | .send _ _ => 0
  | .recv _ => 3 + depth c
  | .tsend _ => 0
  | .trecv _ => 2
theorem lv_kcell (p : Dev nD × Cl) (u : Unit) : lv (kcell p) u = lvK p.1 p.2 := by
  obtain ⟨c, x⟩ := p
  show lvS c (csem x) = lvK c x
  cases x with
  | bar => rfl
  | send k j => revert k j; decide +revert
  | recv k => revert k; decide +revert
  | tsend i => revert i; decide +revert
  | trecv i => revert i; decide +revert

theorem L_of_ne (g : GSem nD τ sig) (h : g.1.2 ≠ .tc) : L g = ∅ := if_neg h
theorem L_tc (c : Dev nD) (sm : SemLoc sig) : L ((c : Thread nD τ), sm) = {()} := if_pos rfl

/-- A wait below everything owed may be made. -/
theorem mayWait_list (c : Dev nD) (sm : SemLoc sig) (l : List (Dev nD × Cl)) (cut : ℕ) (hc : lvS c sm ≤ cut)
    (hl : ∀ x ∈ l, cut < lvK x.1 x.2) : (levAts L lv : sProp 𝕄) ⊢ MayWait (c : Thread nD τ) sm () (Osum l) :=
  MayOwe.of_cut (L := L) (lev := lv) cut (fun p hp => by rw [Finset.mem_singleton.mp hp, L_tc]; exact Finset.mem_singleton_self _)
    (fun g u hg => by obtain ⟨x, _, rfl⟩ := Osum_pos hg; rw [L_tc]; exact Finset.mem_singleton_self _)
    (fun p hp => by rw [Finset.mem_singleton.mp hp]; exact hc)
    (fun g u hg => by obtain ⟨x, hx, rfl⟩ := Osum_pos hg; rw [lv_kcell]; exact hl x hx)

/-! ## What is known throughout -/

variable (K : Dev nD × Cl → ℕ)

/-- Every semaphore's invariant, that its round has begun, and the levels. -/
def ctx : sProp 𝕄 :=
  iprop((bigSep Finset.univ fun p : Dev nD × Cl => cellInv ER (rd m) (K p) (kcell p))
    ∗ (bigSep Finset.univ fun p : Dev nD × Cl => reached ER (kcell p) 0) ∗ levAts L lv)

instance ctx_persistent : BI.Persistent (ctx m K) := by unfold ctx; infer_instance

omit [FloatOps F] [Named F] in
theorem pick {I : Type} [Fintype I] [DecidableEq I] (Φ : I → sProp 𝕄) (i : I) : bigSep Finset.univ Φ ⊢ Φ i := bigSep_elim (Finset.mem_univ i)

theorem ctx_inv (p : Dev nD × Cl) : ctx m K ⊢ cellInv ER (rd m) (K p) (kcell p) := by
  unfold ctx; iintro ⟨H, -⟩; iapply (pick (fun p : Dev nD × Cl => cellInv ER (rd m) (K p) (kcell p)) p); iexact H
theorem ctx_reached (p : Dev nD × Cl) : ctx m K ⊢ reached ER (kcell p) 0 := by
  unfold ctx; iintro ⟨-, H, -⟩; iapply (pick (fun p : Dev nD × Cl => reached ER (kcell p) 0) p); iexact H
theorem ctx_lev : ctx m K ⊢ levAts L lv := by
  unfold ctx; iintro ⟨-, -, H⟩; iexact H

/-- The duty token of a cell, its position at the start, a device's debt, the credit of a cell. -/
def tok (p : Dev nD × Cl) (d : Fin 8) : sProp 𝕄 := dutyTok ER (kcell p) 0 d
def pos (p : Dev nD × Cl) : sProp 𝕄 := atPos ER (kcell p) 0 ∅ 0
def owe (c : Dev nD) (l : List (Dev nD × Cl)) : sProp 𝕄 := iprop(∃ W, owes (c : Thread nD τ) (Osum l) W)
def crd (p : Dev nD × Cl) : sProp 𝕄 := cred (tallyAt (kcell p) () (amt p.2))
/-- A cell whose rounds are over: its counter can be had back at zero. -/
def fin (p : Dev nD × Cl) : sProp 𝕄 :=
  iprop(∃ R, ⌜∀ r, R ≤ r → (rd (F := F) m).duties (kcell p) r = ∅⌝ ∗ atPos ER (kcell p) R ∅ 0)

theorem fin_of_none (p : Dev nD × Cl) (h : dutK p.1 p.2 = ∅) : pos p ⊢ fin (F := F) m p := by
  unfold pos fin; iintro H; iexists 0; isplitr
  · ipureintro; exact duties_none m p h
  · iexact H

theorem fin_close (p : Dev nD × Cl) : iprop(ctx m K ∗ fin m p) ⊢ iprop(|={Set.univ}=> semVal (kcell p) 0) := by
  unfold fin; iintro ⟨#Hc, %R, %hR, H⟩
  iapply (Rounds.cell_close ER (rd m) (Set.mem_univ (K p)) (fun h => h) (R := R) hR)
  isplitr; · iapply (ctx_inv m K p); iexact Hc
  iexact H

end Cert.KernelIdeal.Run
-- ==== Proof.Steps.lean ====
module

public import proofs.«01_k».proof.Proof.Common

@[expose] public section

set_option maxRecDepth 16384

/-!
# One step each

The rules for a signal, a transfer and a wait at this protocol's semaphores, the device's debt kept as the list of the
payments still to make.
-/

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Cl → ℕ)

abbrev 𝒱₀ : Variants := Variants.none

/-- The weakest precondition of a stretch of the kernel on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Qk : α → sProp (MT nD τ sig Unit (Elt F) ℕ UU ℕ)} {k : PUnit → Prog (TpuEff nD τ sig (Elt F) Λ₀ .tc) α}

/-- A barrier signal to `t`. -/
theorem w_signal (c t n : Dev nD) (hn : n = t) {s : Sem sig} (hs : s = barS) (l : List (Dev nD × Cl)) :
    iprop(ctx m K ∗ owe (F := F) c ((t, .bar) :: l) ∗ tok (t, .bar) c ∗ barPay t c)
      ⊢ iprop((owe c l -∗ WP c (k ⟨⟩) Qk) -∗ WP c (.op (.semSignal (Dev.tc n : Thread nD τ) s 1) k) Qk) := by
  subst hn hs
  unfold owe tok
  iintro ⟨#Hc, ⟨%W, HO⟩, Ht, Hp⟩ Hk
  iapply (Rounds.wp_signal 𝒱₀ ER (rd m) (c : Thread nD τ) none (dst := (n : Thread nD τ)) (sem := barS) (κ := K (n, .bar)) (r := 0) (d := c)
    (by rw [show (((n : Thread nD τ), SemLoc.reg barS) : GSem nD τ sig) = kcell (n, .bar) from rfl, duties_eq]; exact Finset.mem_univ _)
    (amount_eq m (n, .bar) c) () (Osum l) rfl) $$ [HO Ht Hp]
  · isplitr; · iapply (ctx_inv m K (n, .bar)); iexact Hc
    isplitl [HO]; · iexact HO
    isplitl [Ht]; · iexact Ht
    isplitl [Hp]; · iapply (Entails.of_eq (show barPay (F := F) n c = (rd m).payload ((n : Thread nD τ), SemLoc.reg barS) 0 c from (payload_eq m (n, .bar) c).symm)); iexact Hp
    iapply (ctx_reached m K (n, .bar)); iexact Hc
  iintro HO
  iapply Hk
  iexists W; iexact HO

/-- The wait for the eight of the own barrier. -/
theorem w_bar (c : Dev nD) {s : Sem sig} (hs : s = barS) (l : List (Dev nD × Cl)) (hl : ∀ x ∈ l, 1 < lvK x.1 x.2) :
    iprop(ctx m K ∗ owe (F := F) c l ∗ pos (c, .bar) ∗ cred (tallyAt (kcell (c, .bar)) () 8))
      ⊢ iprop((owe c l ∗ fin m (c, .bar) ∗ (bigSep Finset.univ fun d => barPay c d) -∗ WP c (k ⟨⟩) Qk)
        -∗ WP c (.op (.semWait s 8) k) Qk) := by
  subst hs
  unfold owe pos
  iintro ⟨#Hc, ⟨%W, HO⟩, Hat, Hcr⟩ Hk
  iapply (Rounds.wp_wait_rest_token 𝒱₀ ER (rd m) (c : Thread nD τ) none (κ := K (c, .bar))
      (wpE_semWait_eq 𝒱₀ (c : Thread nD τ) none Set.univ) (Set.mem_univ _) () (O := Osum l) (W := W) (R := 0) (m := 0) (T := ∅)
      ((expect_eq m (c, .bar)).symm)) $$ [HO Hat Hcr]
  · isplitr; · iapply (ctx_inv m K (c, .bar)); iexact Hc
    isplitl [Hcr]; · iexact Hcr
    isplitl [HO]; · iexact HO
    isplitr
    · iapply (mayWait_list c (.reg barS) l 1 (le_refl _) hl); iapply (ctx_lev m K); iexact Hc
    iexact Hat
  iintro ⟨HO, Hat, -, Hp⟩
  ihave Hp := (Entails.of_eq (show (bigSep ((rd (F := F) m).duties ((c : Thread nD τ), SemLoc.reg barS) 0 \ ∅) fun d => (rd m).payload ((c : Thread nD τ), SemLoc.reg barS) 0 d)
    = bigSep Finset.univ fun d => barPay c d from rest_eq m (c, .bar))) $$ Hp
  iapply Hk
  isplitl [HO]; · iexists _; iexact HO
  isplitl [Hat]
  · unfold fin; iexists 1; isplitr
    · ipureintro; exact duties_later m _
    iexact Hat
  iexact Hp

/-- A wait for a transfer's one payment. -/
theorem w_wait (c : Dev nD) (r : Cl) (d : Fin 8) (hd : dutK c r = {d}) (l : List (Dev nD × Cl)) (hl : ∀ x ∈ l, lvK c r < lvK x.1 x.2)
    {sp sp' : Space} {s s' : Shape} {e e' : EltTy} {q : DmaSem sig} (hq : SemLoc.dma q = csem r)
    {src : Memref sig .tc sp' s' e'} {dst : Memref sig .tc sp s e} {hsrc : src.view.WordExact} {hdst : dst.view.WordExact}
    (hN : dst.view.dmaCredit = amt r) :
    iprop(ctx m K ∗ owe (F := F) c l ∗ pos (c, r) ∗ crd (c, r))
      ⊢ iprop((owe c l ∗ fin m (c, r) ∗ payK m c r d -∗ WP c (k ⟨⟩) Qk)
        -∗ WP c (.op (.waitDma2 q src dst hsrc hdst) k) Qk) := by
  unfold owe pos crd
  iintro ⟨#Hc, ⟨%W, HO⟩, Hat, Hcr⟩ Hk
  have hcell : kcell (c, r) = ((c : Thread nD τ), SemLoc.dma q) := by rw [hq]
  have he : 0 + dst.view.dmaCredit = (rd (F := F) m).expect ((c : Thread nD τ), SemLoc.dma q) 0 := by
    rw [← hcell, expect_eq, hN, hd, Finset.card_singleton, Nat.one_mul, Nat.zero_add]
  iapply (Rounds.wp_wait_rest_token 𝒱₀ ER (rd m) (c : Thread nD τ) none (κ := K (c, r))
      (wpE_waitDma2_eq 𝒱₀ (c : Thread nD τ) none Set.univ) (Set.mem_univ _) () (O := Osum l) (W := W) (R := 0) (m := 0) (T := ∅) he) $$ [HO Hat Hcr]
  · rw [← hcell, hN]
    isplitr; · iapply (ctx_inv m K (c, r)); iexact Hc
    isplitl [Hcr]; · iexact Hcr
    isplitl [HO]; · iexact HO
    isplitr
    · iapply (mayWait_list c (.dma q) l (lvK c r) (by rw [← lv_kcell (c, r) (), hcell]; exact le_refl _) hl); iapply (ctx_lev m K); iexact Hc
    iexact Hat
  rw [← hcell]
  iintro ⟨HO, Hat, -, Hp⟩
  ihave Hp := (Entails.of_eq ((rest_eq m (c, r)).trans (by rw [hd, bigSep_singleton]))) $$ Hp
  iapply Hk
  isplitl [HO]; · iexists _; iexact HO
  isplitl [Hat]
  · unfold fin; iexists 1; isplitr
    · ipureintro; exact duties_later m _
    iexact Hat
  iexact Hp

/-- A transfer to `t`, paying the own send cell `a` and `t`'s receive cell `b`. -/
theorem w_send (c t n : Dev nD) (hn : n = t) (a b : Cl) (da : (0 : Fin 8) ∈ dutK c a) (db : (0 : Fin 8) ∈ dutK t b) (hab : amt a = amt b)
    (l : List (Dev nD × Cl)) {sp sp' : Space} {s : Shape} {e : EltTy} {src : Memref sig .tc sp s e} {dst : Memref sig .tc sp' s e}
    {hsc : (dst : Memref sig (Dev.tc n : Thread nD τ).2.kind sp' s e).view.ref.isScScratch = false} {sS sem : SemLoc sig}
    (hS : sS = csem a) (hR : sem = csem b) (hN : dst.view.amount sem = amt b)
    {hsrc : src.view.WordExact} {hdst : dst.view.WordExact} {hsem : DmaTarget.Typed sp sem (.remote (Dev.tc n : Thread nD τ) dst sS hsc)}
    (q : PosShare TreeShare) (fs : Buf (Elt F) (src.view.loc (c : Thread nD τ))) (fd : Buf (Elt F) (dst.view.loc (t : Thread nD τ)))
    (hpa : (src.view.loc (c : Thread nD τ) ↦[src.view.set]{q} fs) ⊢ payK m c a 0)
    (hpb : (dst.view.loc (t : Thread nD τ) ↦[dst.view.set]{fullShare} (dst.view.write (Elt F) fd (src.view.read (Elt F) fs) Finset.univ)) ⊢ payK m t b 0) :
    iprop(ctx m K ∗ owe (F := F) c ((t, b) :: l) ∗ tok (c, a) 0 ∗ tok (t, b) 0
        ∗ (src.view.loc (c : Thread nD τ) ↦[src.view.set]{q} fs) ∗ (dst.view.loc (t : Thread nD τ) ↦[dst.view.set]{fullShare} fd))
      ⊢ iprop((owe c l ∗ crd (c, a) -∗ WP c (k ⟨⟩) Qk)
        -∗ WP c (.op (.enqueueDma src (.remote (Dev.tc n : Thread nD τ) dst sS hsc) sem hsrc hdst hsem) k) Qk) := by
  subst hn hS hR
  unfold owe tok crd
  iintro ⟨#Hc, ⟨%W, HO⟩, Ha, Hb, Hs, Hd⟩ Hk
  iapply (Rounds.wp_send_pointsTo 𝒱₀ ER (rd m) (c : Thread nD τ) none (κ₁ := K (c, a)) (κ₂ := K (n, b))
    (r₁ := 0) (r₂ := 0) (d₁ := 0) (d₂ := 0) (fd := fd) (fs := fs) (q := q)
    (by rw [duties_eq m (c, a)]; exact da) (by rw [duties_eq m (n, b)]; exact db)
    () () (amt b) hN ((amount_eq m (c, a) 0).trans hab) (amount_eq m (n, b) 0) (Osum l) rfl (W := W)
    (by rw [payload_eq m (c, a)]; exact hpa) (by rw [payload_eq m (n, b)]; exact hpb)) $$ [HO Ha Hb Hs Hd]
  · isplitr; · iapply (ctx_inv m K (c, a)); iexact Hc
    isplitr; · iapply (ctx_inv m K (n, b)); iexact Hc
    isplitl [Hs]; · iexact Hs
    isplitl [Hd]; · iexact Hd
    isplitl [HO]; · iexact HO
    isplitl [Ha]; · iexact Ha
    isplitr; · iapply (ctx_reached m K (c, a)); iexact Hc
    isplitl [Hb]; · iexact Hb
    iapply (ctx_reached m K (n, b)); iexact Hc
  iintro ⟨Hcr, HO⟩
  iapply Hk
  isplitl [HO]; · iexists W; iexact HO
  rw [hab]; iexact Hcr

end Cert.KernelIdeal.Run
-- ==== Proof.Plain.lean ====
module

public import proofs.«01_k».proof.Proof.Common

@[expose] public section

set_option maxRecDepth 65536

/-!
# The kernel, device by device

The kernel's body as a short program over the block number and the device, and that it is the kernel's own.
-/

noncomputable section

namespace Cert.KernelIdeal.Run

open Cert.KernelIdeal Cert.KernelIdeal.Gen

open Idealize.ShloMosaic
open Idealize.ShloMosaic.TcCoe
open Idealize.SL.Sem

variable {F : FTy → Type} [FloatOps F] [Named F]

/-- The send and receive semaphores' numbers. -/
abbrev qSend (k : Fin 8) (j : Fin 2) : DmaSem sig := (⟨6 + 2 * k.val + j.val, lt_send k j⟩ : Fin 34)
abbrev qRecv (k : Fin 8) : DmaSem sig := (⟨22 + k.val, lt_recv k⟩ : Fin 34)
abbrev qTsend (i : Fin 2) : DmaSem sig := (⟨30 + i.val, lt_tsend i⟩ : Fin 34)
abbrev qTrecv (i : Fin 2) : DmaSem sig := (⟨32 + i.val, lt_trecv i⟩ : Fin 34)

theorem blk_exact (k : Fin 8) : (blkM k).view.WordExact := (View.wordExact_bits rfl).reshape _ _
theorem kHead_exact : kHead.view.WordExact := (View.wordExact_bits rfl).reshape _ _
theorem vHead_exact : vHead.view.WordExact := (View.wordExact_bits rfl).reshape _ _
theorem ktM_exact : ktM.view.WordExact := (Memref.isWhole_whole _).wordExact
theorem vtM_exact : vtM.view.WordExact := (Memref.isWhole_whole _).wordExact

/-- Waiting for a block, sending it, waiting for it to be sent. -/
def recvP (k : Fin 8) : Prog (TpuEff nD τ sig (Elt F) Λ₀ .tc) PUnit := Prog.lift (.waitDma2 (qRecv k) (blkM k) (blkM k) (blk_exact k) (blk_exact k))
def sendP (k : Fin 8) (j : Fin 2) (t : Dev nD) : Prog (TpuEff nD τ sig (Elt F) Λ₀ .tc) PUnit :=
  Prog.lift (.enqueueDma (blkM k) (.remote (Dev.tc t) (blkM k) (.dma (qSend k j))) (.dma (qRecv k)) (blk_exact k) (blk_exact k) ⟨⟨rfl, Or.inl rfl⟩, trivial⟩)
def sentP (k : Fin 8) (j : Fin 2) : Prog (TpuEff nD τ sig (Elt F) Λ₀ .tc) PUnit := Prog.lift (.waitDma2 (qSend k j) (blkM k) (blkM k) (blk_exact k) (blk_exact k))

/-- A program at each of a list of blocks. -/
def eachP (f : Fin 8 → Prog (TpuEff nD τ sig (Elt F) Λ₀ .tc) PUnit) : List (Fin 8) → Prog (TpuEff nD τ sig (Elt F) Λ₀ .tc) PUnit
  | [] => pure ⟨⟩
  | k :: l => f k >>= fun _ => eachP f l

/-- Device 1's two transfers of 128 rows, and the waits for them to be sent. -/
def tailP : Prog (TpuEff nD τ sig (Elt F) Λ₀ .tc) PUnit := do
  Prog.lift (.enqueueDma kHead (.remote (Dev.tc (0 : Dev nD)) ktM (.dma (qTsend 0))) (.dma (qTrecv 0)) kHead_exact ktM_exact ⟨⟨rfl, Or.inl rfl⟩, trivial⟩)
  Prog.lift (.enqueueDma vHead (.remote (Dev.tc (0 : Dev nD)) vtM (.dma (qTsend 1))) (.dma (qTrecv 1)) vHead_exact vtM_exact ⟨⟨rfl, Or.inl rfl⟩, trivial⟩)
def tailSentP : Prog (TpuEff nD τ sig (Elt F) Λ₀ .tc) PUnit := do
  Prog.lift (.waitDma2 (qTsend 0) ktM kHead ktM_exact kHead_exact)
  Prog.lift (.waitDma2 (qTsend 1) vtM vHead vtM_exact vHead_exact)
/-- The root's waits for them. -/
def tailRecvP : Prog (TpuEff nD τ sig (Elt F) Λ₀ .tc) PUnit := do
  Prog.lift (.waitDma2 (qTrecv 0) kHead ktM kHead_exact ktM_exact)
  Prog.lift (.waitDma2 (qTrecv 1) vHead vtM vHead_exact vtM_exact)

abbrev rowsR (k : Fin 8) : Rect S1x2048x1024 := Rect.unit (s := S1x2048x1024) ![0, 256 * k.val, 0] S1x256x1024.size (inb_rows (256 * k.val) 256 (blk_inb k))
abbrev keysR (r : ℕ) (h : r + 512 ≤ 2048) : Rect S1x2048x8x128 := Rect.unit (s := S1x2048x8x128) ![0, r, 0, 0] S1x512x8x128.size (inb_keys r 512 h)
abbrev lastR : Rect S1x2048x8x128 := Rect.unit (s := S1x2048x8x128) ![0, 1664, 0, 0] S1x384x8x128.size (inb_keys 1664 384 (by decide))
abbrev allR : Rect S1024x1024 := Rect.unit (s := S1024x1024) ![0, 0] S1024x1024.size inb_S1024x1024_S1024x1024_0_0
abbrev tailR : Rect S128x8x128 := Rect.unit (s := S128x8x128) ![0, 0, 0] S128x8x128.size inb_S128x8x128_S128x8x128_0_0_0

theorem wo0_inb (k : Fin 8) (h : k.val < 7) : wo0 k.val + 512 ≤ 2048 := by unfold wo0; omega

/-- Storing a block and sending it both ways. -/
def putP (k : Fin 8) (b : FVec F S1x256x1024 .f32) : Prog (TpuEff nD τ sig (Elt F) Λ₀ .tc) PUnit := do
  let _ : Vec F S1x256x1024 .f32 ← Prog.lift (.load oM (rowsR k).toLoadRect (View.loadsAt_vmem h_S1x256x1024))
  Prog.lift (.store oM (rowsR k) b Finset.univ (View.stores_vmem_bits_univ h_S1x256x1024 rfl) (.inl rfl))
  sendP k 0 1
  sendP k 1 4

/-- The root's work on one of the first seven blocks. -/
def blkP (wq wo : Vec F S1024x1024 .f32) (k : Fin 8) : Prog (TpuEff nD τ sig (Elt F) Λ₀ .tc) PUnit :=
  if h : k.val < 7 then do
    let kk : Vec F S1x512x8x128 .f32 ← Prog.lift (.load kM (keysR (wo0 k.val) (wo0_inb k h)).toLoadRect (View.loadsAt_vmem h_S1x512x8x128))
    let vv : Vec F S1x512x8x128 .f32 ← Prog.lift (.load vM (keysR (wo0 k.val) (wo0_inb k h)).toLoadRect (View.loadsAt_vmem h_S1x512x8x128))
    let xb : Vec F S1x256x1024 .f32 ← Prog.lift (.load xM (rowsR k).toLoadRect (View.loadsAt_vmem h_S1x256x1024))
    putP k (blkOf (BitVec.ofNat 32 (256 * k.val)) (BitVec.ofNat 32 (wo0 k.val)) xb (shapeCast S512x8x128 kk shapeCasts_S1x512x8x128_S512x8x128)
      (shapeCast S512x8x128 vv shapeCasts_S1x512x8x128_S512x8x128) wq wo)
  else pure ⟨⟩

/-- The last block, whose window ends in device 1's rows. -/
def lastP (wq wo : Vec F S1024x1024 .f32) : Prog (TpuEff nD τ sig (Elt F) Λ₀ .tc) PUnit := do
  let kk : Vec F S1x384x8x128 .f32 ← Prog.lift (.load kM lastR.toLoadRect (View.loadsAt_vmem h_S1x384x8x128))
  let kt : Vec F S128x8x128 .f32 ← Prog.lift (.load ktM tailR.toLoadRect (View.loadsAt_vmem h_S128x8x128))
  let vv : Vec F S1x384x8x128 .f32 ← Prog.lift (.load vM lastR.toLoadRect (View.loadsAt_vmem h_S1x384x8x128))
  let vt : Vec F S128x8x128 .f32 ← Prog.lift (.load vtM tailR.toLoadRect (View.loadsAt_vmem h_S128x8x128))
  let xb : Vec F S1x256x1024 .f32 ← Prog.lift (.load xM (rowsR 7).toLoadRect (View.loadsAt_vmem h_S1x256x1024))
  putP 7 (blkOf (BitVec.ofNat 32 1792) (BitVec.ofNat 32 1664) xb
    (concatenate S512x8x128 0 [⟨S384x8x128, shapeCast S384x8x128 kk shapeCasts_S1x384x8x128_S384x8x128⟩, ⟨S128x8x128, kt⟩] concatenates_S384x8x128_S128x8x128_S512x8x128_d0)
    (concatenate S512x8x128 0 [⟨S384x8x128, shapeCast S384x8x128 vv shapeCasts_S1x384x8x128_S384x8x128⟩, ⟨S128x8x128, vt⟩] concatenates_S384x8x128_S128x8x128_S512x8x128_d0)
    wq wo)

/-- The root. -/
def rootP : Prog (TpuEff nD τ sig (Elt F) Λ₀ .tc) PUnit := do
  let wq : Vec F S1024x1024 .f32 ← Prog.lift (.load wqM allR.toLoadRect (View.loadsAt_vmem h_S1024x1024))
  let wo : Vec F S1024x1024 .f32 ← Prog.lift (.load woM allR.toLoadRect (View.loadsAt_vmem h_S1024x1024))
  eachP (blkP wq wo) [0, 1, 2, 3, 4, 5, 6]
  tailRecvP
  lastP wq wo
  eachP (fun k => do sentP k 0; sentP k 1) blks

/-- A device that passes its blocks on, and one that does not. -/
def passP (c : Dev nD) : Prog (TpuEff nD τ sig (Elt F) Λ₀ .tc) PUnit := eachP (fun k => do recvP k; sendP k 0 (nx c); sentP k 0) blks
def leafP : Prog (TpuEff nD τ sig (Elt F) Λ₀ .tc) PUnit := eachP recvP blks

/-- What a device does once every device has signalled. -/
def mineP (c : Dev nD) : Prog (TpuEff nD τ sig (Elt F) Λ₀ .tc) PUnit :=
  if c = 0 then rootP
  else if c = 1 then do tailP; passP 1; tailSentP
  else if c = 6 ∨ c = 7 then leafP
  else passP c

/-- The eight signals and the wait for eight. -/
def barP : Prog (TpuEff nD τ sig (Elt F) Λ₀ .tc) PUnit := do
  Prog.lift (.semSignal (Dev.tc (0 : Dev nD)) barS 1)
  Prog.lift (.semSignal (Dev.tc (1 : Dev nD)) barS 1)
  Prog.lift (.semSignal (Dev.tc (2 : Dev nD)) barS 1)
  Prog.lift (.semSignal (Dev.tc (3 : Dev nD)) barS 1)
  Prog.lift (.semSignal (Dev.tc (4 : Dev nD)) barS 1)
  Prog.lift (.semSignal (Dev.tc (5 : Dev nD)) barS 1)
  Prog.lift (.semSignal (Dev.tc (6 : Dev nD)) barS 1)
  Prog.lift (.semSignal (Dev.tc (7 : Dev nD)) barS 1)
  Prog.lift (.semWait barS 8)

def bodyP : Prog (TpuEff nD τ sig (Elt F) Λ₀ .tc) PUnit := do
  let c ← Prog.lift .deviceId
  barP
  mineP c

/-- The kernel's body as the pipeline calls it. -/
abbrev callP : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 cc0_scratch4 cc0_scratch5

/-- It is the program above. -/
theorem call_eq : callP (F := F) = bodyP := by
  show Prog.op (TpuEff.deviceId (nD := nD) (τ := τ) (sig := sig) (Val := Elt F) (Λ := Λ₀)) _ = Prog.op TpuEff.deviceId _
  refine congrArg _ (funext fun d => ?_)
  match d with
  | 0 => rfl
  | 1 => rfl
  | 2 => rfl
  | 3 => rfl
  | 4 => rfl
  | 5 => rfl
  | 6 => rfl
  | 7 => rfl

end Cert.KernelIdeal.Run
-- ==== Proof.Pieces.lean ====
module

public import proofs.«01_k».proof.Proof.Steps
public import proofs.«01_k».proof.Proof.Plain

@[expose] public section

set_option maxRecDepth 16384

/-!
# What the pieces of the kernel do

Each stretch of the program takes what it needs and gives back what it leaves.
-/

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Cl → ℕ)

/-! ## The blocks as sets -/

theorem mem_blk (k : Fin 8) (i : S1x2048x1024.Idx) : i ∈ (blkM k).view.set ↔ (i 1).val / 256 = k.val := by
  have e : (blkM k).view.set = (rowsR k).set := (View.set_reshape _ _).trans (View.set_slice_whole _ _)
  rw [e, Rect.mem_set_unit]
  constructor
  · intro h
    have h1 : 256 * k.val ≤ (i 1).val ∧ (i 1).val < 256 * k.val + 256 := h 1
    omega
  · intro h a
    fin_cases a
    · have h0 : (i 0).val < 1 := (i 0).isLt
      exact ⟨Nat.zero_le _, h0⟩
    · show 256 * k.val ≤ (i 1).val ∧ (i 1).val < 256 * k.val + 256
      omega
    · have h0 : (i 2).val < 1024 := (i 2).isLt
      exact ⟨Nat.zero_le _, by show (i 2).val < 0 + 1024; omega⟩

theorem blk_disjoint (k k' : Fin 8) (h : k ≠ k') : Disjoint (blkM k).view.set (blkM k').view.set :=
  Finset.disjoint_left.mpr fun i hi hi' => h (Fin.ext (((mem_blk k i).mp hi).symm.trans ((mem_blk k' i).mp hi')))

abbrev blkSet (k : Fin 8) : Finset S1x2048x1024.Idx := (blkM k).view.set

theorem blk_cover : (Finset.univ : Finset (Fin 8)).biUnion blkSet = Finset.univ := by
  refine Finset.eq_univ_iff_forall.mpr fun i => Finset.mem_biUnion.mpr ?_
  have h1 : (i 1).val < 2048 := (i 1).isLt
  exact ⟨⟨(i 1).val / 256, by omega⟩, Finset.mem_univ _, (mem_blk _ i).mpr rfl⟩

/-- A device's output buffer. -/
abbrev oPts (c : Dev nD) (f : (cc0_stg5_0 : Ref sig .tc).ty.Contents (Elt F)) : sProp 𝕄 :=
  ((c : Thread nD τ).loc cc0_stg5_0 : Loc nD τ sig) ↦{fullShare} f

/-- The output buffer is its eight blocks. -/
theorem oPts_blocks (c : Dev nD) (f : (cc0_stg5_0 : Ref sig .tc).ty.Contents (Elt F)) :
    (oPts c f : sProp 𝕄) = bigSep Finset.univ fun k => oBlk c k fullShare f :=
  Ring.pointsTo_blocks (ℓ := ((c : Thread nD τ).loc cc0_stg5_0 : Loc nD τ sig)) (fun k : Fin 8 => (blkM k).view.set) blk_disjoint blk_cover f

/-- A block in halves. -/
theorem oBlk_halves (c : Dev nD) (k : Fin 8) (f : (cc0_stg5_0 : Ref sig .tc).ty.Contents (Elt F)) :
    (oBlk c k fullShare f : sProp 𝕄) ⊣⊢ iprop(oBlk c k fullShare.left f ∗ oBlk c k fullShare.right f) :=
  pointsTo_share (PosShare.mem_left_op_right _)

/-- A block that arrived. -/
theorem landed (c : Dev nD) (k : Fin 8) (f g : (cc0_stg5_0 : Ref sig .tc).ty.Contents (Elt F)) :
    ((blkM k).view.loc (c : Thread nD τ) ↦[(blkM k).view.set]{fullShare}
      ((blkM k).view.write (Elt F) f ((blkM k).view.read (Elt F) g) Finset.univ)) = (oBlk c k fullShare g : sProp 𝕄) :=
  pointsTo_congr fun i hi => by
    rw [View.write_read_eq_piecewise, View.setOn_univ]
    exact Finset.piecewise_eq_of_mem _ _ _ hi

theorem store_set (k : Fin 8) : (oM.access (rowsR k)).setOn Finset.univ = (blkM k).view.set :=
  ((View.set_reshape _ _).symm : _)

/-- A block that was computed. -/
theorem stored (c : Dev nD) (k : Fin 8) (f : (cc0_stg5_0 : Ref sig .tc).ty.Contents (Elt F)) :
    ((oM.access (rowsR k)).loc (c : Thread nD τ) ↦[(blkM k).view.set]{fullShare}
      ((oM.access (rowsR k)).write (Elt F) f (blk (insOf m) k) Finset.univ)) = (oBlk c k fullShare (OUT m) : sProp 𝕄) :=
  pointsTo_congr fun i hi => by
    have hk := (mem_blk k i).mp hi
    rw [← store_set, View.setOn, Finset.mem_map] at hi
    obtain ⟨j, -, rfl⟩ := hi
    rw [View.write_emb_of_mem _ _ (Finset.mem_univ j)]
    have h1 : (((oM.access (rowsR k)).emb j) 1).val = 256 * k.val + (j 1).val := by
      show 256 * k.val + 1 * (j 1).val = _
      omega
    have h2 : (((oM.access (rowsR k)).emb j) 2).val = (j 2).val := by
      show 0 + 1 * (j 2).val = _
      omega
    have hj : (j 1).val < 256 := (j 1).isLt
    have hj0 : (j 0).val < 1 := (j 0).isLt
    unfold OUT outOf
    have hkk : (⟨(((oM.access (rowsR k)).emb j) 1).val / 256, by omega⟩ : Fin 8) = k := Fin.ext hk
    refine (congrFun (congrArg (blk (insOf m)) hkk.symm) j).trans (congrArg _ (funext fun a => ?_))
    fin_cases a
    · exact Fin.ext (by show (j 0).val = 0; omega)
    · exact Fin.ext (by show (j 1).val = (((oM.access (rowsR k)).emb j) 1).val % 256; rw [h1]; omega)
    · exact Fin.ext (by show (j 2).val = (((oM.access (rowsR k)).emb j) 2).val; rw [h2])

end Cert.KernelIdeal.Run
-- ==== Proof.Moves.lean ====
module

public import proofs.«01_k».proof.Proof.Pieces

@[expose] public section

set_option maxRecDepth 16384

/-!
# The program's stretches

For each stretch of the program, what it takes and what it leaves.
-/

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Cl → ℕ)

variable {Qk : PUnit → sProp (MT nD τ sig Unit (Elt F) ℕ UU ℕ)}

theorem WP_ret (c : Dev nD) {α : Type} {R : α → sProp 𝕄} (a : α) : R a ⊢ WP c (.ret a) R := by
  unfold WP; rw [wp_ret]; exact fupd_intro
theorem WP_bind (c : Dev nD) {α β : Type} {R : β → sProp 𝕄} (p : Prog (TpuEff nD τ sig (Elt F) Λ₀ .tc) α) (f : α → Prog (TpuEff nD τ sig (Elt F) Λ₀ .tc) β) :
    WP c p (fun a => WP c (f a) R) ⊢ WP c (p >>= f) R := by
  unfold WP; rw [wp_bind]

/-- A device that has no block sent to it by itself: every device but the root receives. -/
theorem dut_recv {c : Dev nD} (h : c ≠ 0) (k : Fin 8) : dutK c (.recv k) = {0} := if_pos h
theorem dut_send {c : Dev nD} {j : Fin 2} (h : sends c j) (k : Fin 8) : dutK c (.send k j) = {0} := if_pos h

/-- Waiting for a block. -/
theorem recv_spec (c : Dev nD) (hc : c ≠ 0) (k : Fin 8) (l : List (Dev nD × Cl)) (hl : ∀ x ∈ l, 3 + depth c < lvK x.1 x.2) :
    iprop(ctx m K ∗ owe (F := F) c l ∗ pos (c, .recv k) ∗ crd (c, .recv k))
      ⊢ iprop((owe c l ∗ fin m (c, .recv k) ∗ oBlk c k fullShare (OUT m) -∗ Qk ⟨⟩) -∗ WP c (recvP k) Qk) := by
  unfold recvP Prog.lift
  iintro H Hk
  iapply (w_wait m K c (.recv k) 0 (dut_recv hc k) l hl (dst := blkM k) (src := blkM k) (hsrc := blk_exact k) (hdst := blk_exact k) rfl (amount_blk k)) $$ H
  iintro H
  iapply (WP_ret c ⟨⟩)
  iapply Hk; iexact H

/-- Sending a block. -/
theorem send_spec (c t : Dev nD) (j : Fin 2) (hs : sends c j) (ht : t ≠ 0) (k : Fin 8) (l : List (Dev nD × Cl)) :
    iprop(ctx m K ∗ owe (F := F) c ((t, .recv k) :: l) ∗ tok (c, .send k j) 0 ∗ tok (t, .recv k) 0
        ∗ oBlk c k (shareOf c j) (OUT m) ∗ (∃ f, oBlk t k fullShare f))
      ⊢ iprop((owe c l ∗ crd (c, .send k j) -∗ Qk ⟨⟩) -∗ WP c (sendP k j t) Qk) := by
  unfold sendP Prog.lift oBlk
  iintro ⟨#Hc, HO, Ha, Hb, Hs, %f, Hd⟩ Hk
  iapply (w_send m K c t t rfl (.send k j) (.recv k) (by rw [dut_send hs]; exact Finset.mem_singleton_self _)
    (by rw [dut_recv ht]; exact Finset.mem_singleton_self _) rfl l (src := blkM k) (dst := blkM k) (hsrc := blk_exact k) (hdst := blk_exact k) (hsc := rfl) (hsem := ⟨⟨rfl, Or.inl rfl⟩, trivial⟩)
    (sS := .dma (qSend k j)) (sem := .dma (qRecv k)) rfl rfl (amount_blk k) (shareOf c j) (OUT m) f
    (Entails.of_eq rfl) (Entails.of_eq (landed t k f (OUT m)))) $$ [HO Ha Hb Hs Hd]
  · isplitr; · iexact Hc
    isplitl [HO]; · iexact HO
    isplitl [Ha]; · iexact Ha
    isplitl [Hb]; · iexact Hb
    isplitl [Hs]; · iexact Hs
    iexact Hd
  iintro H
  iapply (WP_ret c ⟨⟩)
  iapply Hk; iexact H

/-- Waiting for a block to be sent. -/
theorem sent_spec (c : Dev nD) (j : Fin 2) (hs : sends c j) (k : Fin 8) (l : List (Dev nD × Cl)) (hl : ∀ x ∈ l, 0 < lvK x.1 x.2) :
    iprop(ctx m K ∗ owe (F := F) c l ∗ pos (c, .send k j) ∗ crd (c, .send k j))
      ⊢ iprop((owe c l ∗ fin m (c, .send k j) ∗ oBlk c k (shareOf c j) (OUT m) -∗ Qk ⟨⟩) -∗ WP c (sentP k j) Qk) := by
  unfold sentP Prog.lift
  iintro H Hk
  iapply (w_wait m K c (.send k j) 0 (dut_send hs k) l hl (dst := blkM k) (src := blkM k) (hsrc := blk_exact k) (hdst := blk_exact k) rfl (amount_blk k)) $$ H
  iintro H
  iapply (WP_ret c ⟨⟩)
  iapply Hk; iexact H

/-! ## A stretch at each of a list of blocks -/

/-- One assertion for each block of a list. -/
def sepL (Φ : Fin 8 → sProp 𝕄) : List (Fin 8) → sProp 𝕄
  | [] => iprop(emp)
  | k :: l => iprop(Φ k ∗ sepL Φ l)

omit [FloatOps F] [Named F] in
theorem sepL_nil (Φ : Fin 8 → sProp 𝕄) : sepL Φ [] = iprop(emp) := rfl
omit [FloatOps F] [Named F] in
theorem sepL_cons (Φ : Fin 8 → sProp 𝕄) (k : Fin 8) (l : List (Fin 8)) : sepL Φ (k :: l) = iprop(Φ k ∗ sepL Φ l) := rfl

omit [FloatOps F] [Named F] in
theorem sepL_all (Φ : Fin 8 → sProp 𝕄) : bigSep Finset.univ Φ ⊢ sepL Φ blks := by
  rw [bigSep_univ_eq_bigSepL blks (by decide) (by decide)]
  simp only [bigSepL_cons_cons, bigSepL_singleton, sepL]
  show iprop(Φ 0 ∗ Φ 1 ∗ Φ 2 ∗ Φ 3 ∗ Φ 4 ∗ Φ 5 ∗ Φ 6 ∗ Φ 7) ⊢ _
  iintro ⟨H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro

omit [FloatOps F] [Named F] in
theorem all_sepL (Φ : Fin 8 → sProp 𝕄) : sepL Φ blks ⊢ bigSep Finset.univ Φ := by
  rw [bigSep_univ_eq_bigSepL blks (by decide) (by decide)]
  simp only [bigSepL_cons_cons, bigSepL_singleton, sepL]
  show _ ⊢ iprop(Φ 0 ∗ Φ 1 ∗ Φ 2 ∗ Φ 3 ∗ Φ 4 ∗ Φ 5 ∗ Φ 6 ∗ Φ 7)
  iintro ⟨H0, H1, H2, H3, H4, H5, H6, H7, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

omit [FloatOps F] [Named F] in
theorem sepL_zip (Φ Ψ : Fin 8 → sProp 𝕄) : ∀ ks, iprop(sepL Φ ks ∗ sepL Ψ ks) ⊢ sepL (fun k => iprop(Φ k ∗ Ψ k)) ks
  | [] => by unfold sepL; iintro -; iempintro
  | k :: ks => by
    unfold sepL
    iintro ⟨⟨H, HL⟩, H', HL'⟩
    isplitl [H H']
    · isplitl [H]; · iexact H
      iexact H'
    iapply (sepL_zip Φ Ψ ks); isplitl [HL]; · iexact HL
    iexact HL'

omit [FloatOps F] [Named F] in
theorem sepL_append (Φ : Fin 8 → sProp 𝕄) (ks' : List (Fin 8)) : ∀ ks, sepL Φ (ks ++ ks') ⊣⊢ iprop(sepL Φ ks ∗ sepL Φ ks')
  | [] => by
    rw [List.nil_append, sepL_nil]
    constructor
    · iintro H; isplitr; · iempintro
      iexact H
    · iintro ⟨-, H⟩; iexact H
  | k :: ks => by
    rw [List.cons_append, sepL_cons, sepL_cons]
    constructor
    · iintro ⟨H, HL⟩
      ihave HL := (sepL_append Φ ks' ks).1 $$ HL
      icases HL with ⟨HL, HL'⟩
      isplitl [H HL]
      · isplitl [H]; · iexact H
        iexact HL
      iexact HL'
    · iintro ⟨⟨H, HL⟩, HL'⟩
      isplitl [H]; · iexact H
      iapply (sepL_append Φ ks' ks).2
      isplitl [HL]; · iexact HL
      iexact HL'

/-- If a stretch takes `A k` and pays `w k`, leaving `B k`, then the stretches one after another do so for the whole list. -/
theorem each_spec (c : Dev nD) (f : Fin 8 → Prog (TpuEff nD τ sig (Elt F) Λ₀ .tc) PUnit) (J : sProp 𝕄) (A B : Fin 8 → sProp 𝕄)
    (w : Fin 8 → List (Dev nD × Cl)) (good : Fin 8 → Prop) (ok : Dev nD × Cl → Prop)
    (step : ∀ (k : Fin 8) (l : List (Dev nD × Cl)) (R : PUnit → sProp 𝕄), good k → (∀ x ∈ w k ++ l, ok x) →
      iprop(ctx m K ∗ owe c (w k ++ l) ∗ J ∗ A k) ⊢ iprop((owe c l ∗ J ∗ B k -∗ R ⟨⟩) -∗ WP c (f k) R)) :
    ∀ (ks : List (Fin 8)) (l : List (Dev nD × Cl)) (R : PUnit → sProp 𝕄), (∀ k ∈ ks, good k) → (∀ x ∈ ks.flatMap w ++ l, ok x) →
      iprop(ctx m K ∗ owe c (ks.flatMap w ++ l) ∗ J ∗ sepL A ks) ⊢ iprop((owe c l ∗ J ∗ sepL B ks -∗ R ⟨⟩) -∗ WP c (eachP f ks) R)
  | [], l, R, _, _ => by
    unfold eachP sepL
    iintro ⟨-, HO, HJ, -⟩ Hk
    iapply (WP_ret c ⟨⟩)
    iapply Hk
    isplitl [HO]; · iexact HO
    isplitl [HJ]; · iexact HJ
    iempintro
  | k :: ks, l, R, hg, h => by
    rw [List.flatMap_cons, List.append_assoc] at h ⊢
    unfold eachP sepL
    iintro ⟨#Hc, HO, HJ, HA, HL⟩ Hk
    iapply (WP_bind c (f k) fun _ => eachP f ks)
    iapply (step k (ks.flatMap w ++ l) _ (hg k List.mem_cons_self) h) $$ [HO HJ HA]
    · isplitr; · iexact Hc
      isplitl [HO]; · iexact HO
      isplitl [HJ]; · iexact HJ
      iexact HA
    iintro ⟨HO, HJ, HB⟩
    iapply (each_spec c f J A B w good ok step ks l R (fun k hk => hg k (List.mem_cons_of_mem _ hk)) fun x hx => h x (List.mem_append_right _ hx)) $$ [HO HJ HL]
    · isplitr; · iexact Hc
      isplitl [HO]; · iexact HO
      isplitl [HJ]; · iexact HJ
      iexact HL
    iintro ⟨HO, HJ, HL⟩
    iapply Hk
    isplitl [HO]; · iexact HO
    isplitl [HJ]; · iexact HJ
    isplitl [HB]; · iexact HB
    iexact HL

end Cert.KernelIdeal.Run
-- ==== Proof.Root.lean ====
module

public import proofs.«01_k».proof.Proof.Moves

@[expose] public section

set_option maxRecDepth 16384

/-!
# What each device does after the barrier

The root, the device that also sends the 128 rows, the devices that pass blocks on, and the two leaves.
-/

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Cl → ℕ)

variable {Qk : PUnit → sProp (MT nD τ sig Unit (Elt F) ℕ UU ℕ)}

/-! ## The staging buffers -/

def sPts0 (c : Dev nD) : sProp 𝕄 := ((c : Thread nD τ).loc cc0_stg0_0 : Loc nD τ sig) ↦{fullShare} (xs0 m c)
def sPts1 (c : Dev nD) : sProp 𝕄 := ((c : Thread nD τ).loc cc0_stg1_0 : Loc nD τ sig) ↦{fullShare} (xs1 m c)
def sPts2 (c : Dev nD) : sProp 𝕄 := ((c : Thread nD τ).loc cc0_stg2_0 : Loc nD τ sig) ↦{fullShare} (xs2 m c)
def sPts3 (c : Dev nD) : sProp 𝕄 := ((c : Thread nD τ).loc cc0_stg3_0 : Loc nD τ sig) ↦{fullShare} (xs3 m c)
def sPts4 (c : Dev nD) : sProp 𝕄 := ((c : Thread nD τ).loc cc0_stg4_0 : Loc nD τ sig) ↦{fullShare} (xs4 m c)

/-! ## The root -/

/-- What a block's sending takes and leaves. -/
def rootA (k : Fin 8) : sProp 𝕄 :=
  iprop((∃ f, oBlk 0 k fullShare f) ∗ tok (0, .send k 0) 0 ∗ tok (0, .send k 1) 0 ∗ tok (1, .recv k) 0 ∗ tok (4, .recv k) 0
    ∗ (∃ f, oBlk 1 k fullShare f) ∗ (∃ f, oBlk 4 k fullShare f))
def rootB (k : Fin 8) : sProp 𝕄 := iprop(crd (0, .send k 0) ∗ crd (0, .send k 1))
/-- Its two payments. -/
def rootW (k : Fin 8) : List (Dev nD × Cl) := [(1, .recv k), (4, .recv k)]

theorem put_spec (k : Fin 8) (l : List (Dev nD × Cl)) (b : FVec F S1x256x1024 .f32) (hb : b = blk (insOf m) k) :
    iprop(ctx m K ∗ owe (F := F) 0 (rootW k ++ l) ∗ rootA k) ⊢ iprop((owe 0 l ∗ rootB k -∗ Qk ⟨⟩) -∗ WP 0 (putP k b) Qk) := by
  subst hb
  unfold putP rootA rootB rootW
  iintro ⟨#Hc, HO, ⟨%f, Ho⟩, Ha0, Ha1, Hb0, Hb1, Hd0, Hd1⟩ Hk
  unfold oBlk
  iapply (wp_load 𝒱₀ ((0 : Dev nD) : Thread nD τ) none Set.univ (m := oM) (r := (rowsR k).toLoadRect) (S := (blkM k).view.set)
    (by rw [← store_set]; exact fun i hi => by rwa [View.setOn_univ, View.set_slice])) $$ Ho
  iintro Ho
  iapply (wp_store 𝒱₀ ((0 : Dev nD) : Thread nD τ) none Set.univ (m := oM) (r := rowsR k) (Mk := Finset.univ) (S := (blkM k).view.set)
    (by rw [store_set])) $$ Ho
  iintro Ho
  ihave Ho := (Entails.of_eq (stored m 0 k f)) $$ Ho
  ihave Ho := (oBlk_halves 0 k (OUT m)).1 $$ Ho
  icases Ho with ⟨Hl, Hr⟩
  iapply (WP_bind 0 (sendP k 0 1) fun _ => sendP k 1 4)
  iapply (send_spec m K 0 1 0 (Or.inl rfl) (by decide) k ((4, .recv k) :: l)) $$ [HO Ha0 Hb0 Hl Hd0]
  · isplitr; · iexact Hc
    isplitl [HO]; · iexact HO
    isplitl [Ha0]; · iexact Ha0
    isplitl [Hb0]; · iexact Hb0
    isplitl [Hl]; · iexact Hl
    iexact Hd0
  iintro ⟨HO, Hc0⟩
  iapply (send_spec m K 0 4 1 (Or.inl rfl) (by decide) k l) $$ [HO Ha1 Hb1 Hr Hd1]
  · isplitr; · iexact Hc
    isplitl [HO]; · iexact HO
    isplitl [Ha1]; · iexact Ha1
    isplitl [Hb1]; · iexact Hb1
    isplitl [Hr]; · iexact Hr
    iexact Hd1
  iintro ⟨HO, Hc1⟩
  iapply Hk
  isplitl [HO]; · iexact HO
  isplitl [Hc0]; · iexact Hc0
  iexact Hc1

/-- What the root reads its blocks from. -/
def rootJ : sProp 𝕄 := iprop(sPts0 m 0 ∗ sPts2 m 0 ∗ sPts3 m 0)

theorem blk_spec (k : Fin 8) (hk : k.val < 7) (l : List (Dev nD × Cl)) :
    iprop(ctx m K ∗ owe (F := F) 0 (rootW k ++ l) ∗ rootJ m ∗ rootA k)
      ⊢ iprop((owe 0 l ∗ rootJ m ∗ rootB k -∗ Qk ⟨⟩) -∗ WP 0 (blkP (xs1 m 0) (xs4 m 0) k) Qk) := by
  unfold blkP rootJ sPts0 sPts2 sPts3
  rw [dif_pos hk]
  iintro ⟨#Hc, HO, ⟨H0, H2, H3⟩, HA⟩ Hk
  iapply (wp_load 𝒱₀ ((0 : Dev nD) : Thread nD τ) none Set.univ (m := kM) (r := (keysR (wo0 k.val) (wo0_inb k hk)).toLoadRect) (Finset.subset_univ _)) $$ H2
  iintro H2
  iapply (wp_load 𝒱₀ ((0 : Dev nD) : Thread nD τ) none Set.univ (m := vM) (r := (keysR (wo0 k.val) (wo0_inb k hk)).toLoadRect) (Finset.subset_univ _)) $$ H3
  iintro H3
  iapply (wp_load 𝒱₀ ((0 : Dev nD) : Thread nD τ) none Set.univ (m := xM) (r := (rowsR k).toLoadRect) (Finset.subset_univ _)) $$ H0
  iintro H0
  iapply (put_spec m K k l _ (by unfold blk; rw [dif_pos hk]; rfl)) $$ [HO HA]
  · isplitr; · iexact Hc
    isplitl [HO]; · iexact HO
    iexact HA
  iintro ⟨HO, HB⟩
  iapply Hk
  isplitl [HO]; · iexact HO
  isplitl [H0 H2 H3]
  · isplitl [H0]; · iexact H0
    isplitl [H2]; · iexact H2
    iexact H3
  iexact HB

theorem hz2 : (![0, 0] : Fin 2 → ℕ) = fun _ => 0 := funext fun a => by fin_cases a <;> rfl
theorem hz3 : (![0, 0, 0] : Fin 3 → ℕ) = fun _ => 0 := funext fun a => by fin_cases a <;> rfl

/-- The last block. -/
theorem last_spec (l : List (Dev nD × Cl)) :
    iprop(ctx m K ∗ owe (F := F) 0 (rootW 7 ++ l) ∗ rootJ m ∗ (ktPts (ktv m) ∗ vtPts (vtv m)) ∗ rootA 7)
      ⊢ iprop((owe 0 l ∗ rootJ m ∗ (ktPts (ktv m) ∗ vtPts (vtv m)) ∗ rootB 7 -∗ Qk ⟨⟩) -∗ WP 0 (lastP (xs1 m 0) (xs4 m 0)) Qk) := by
  unfold lastP rootJ sPts0 sPts2 sPts3 ktPts vtPts
  iintro ⟨#Hc, HO, ⟨H0, H2, H3⟩, ⟨Hkt, Hvt⟩, HA⟩ Hk
  iapply (wp_load 𝒱₀ ((0 : Dev nD) : Thread nD τ) none Set.univ (m := kM) (r := lastR.toLoadRect) (Finset.subset_univ _)) $$ H2
  iintro H2
  iapply (wp_load 𝒱₀ ((0 : Dev nD) : Thread nD τ) none Set.univ (m := ktM) (r := tailR.toLoadRect)
    (by rw [show ktM.view.set = Finset.univ from View.set_whole _]; exact Finset.subset_univ _)) $$ Hkt
  iintro Hkt
  iapply (wp_load 𝒱₀ ((0 : Dev nD) : Thread nD τ) none Set.univ (m := vM) (r := lastR.toLoadRect) (Finset.subset_univ _)) $$ H3
  iintro H3
  iapply (wp_load 𝒱₀ ((0 : Dev nD) : Thread nD τ) none Set.univ (m := vtM) (r := tailR.toLoadRect)
    (by rw [show vtM.view.set = Finset.univ from View.set_whole _]; exact Finset.subset_univ _)) $$ Hvt
  iintro Hvt
  iapply (wp_load 𝒱₀ ((0 : Dev nD) : Thread nD τ) none Set.univ (m := xM) (r := (rowsR 7).toLoadRect) (Finset.subset_univ _)) $$ H0
  iintro H0
  rw [show ktM.view.readAt (Elt F) tailR.toLoadRect (ktv m) = ktv m from Memref.readAt_unit_zero (Elt F) cc0_scratch0 hz3 _ _,
    show vtM.view.readAt (Elt F) tailR.toLoadRect (vtv m) = vtv m from Memref.readAt_unit_zero (Elt F) cc0_scratch1 hz3 _ _]
  iapply (put_spec m K 7 l _ (by unfold blk; rw [dif_neg (by decide)]; rfl)) $$ [HO HA]
  · isplitr; · iexact Hc
    isplitl [HO]; · iexact HO
    iexact HA
  iintro ⟨HO, HB⟩
  iapply Hk
  isplitl [HO]; · iexact HO
  isplitl [H0 H2 H3]
  · isplitl [H0]; · iexact H0
    isplitl [H2]; · iexact H2
    iexact H3
  isplitl [Hkt Hvt]
  · isplitl [Hkt]; · iexact Hkt
    iexact Hvt
  iexact HB

theorem dut_trecv (i : Fin 2) : dutK 0 (.trecv i) = {0} := by revert i; decide
theorem dut_tsend (i : Fin 2) : dutK 1 (.tsend i) = {0} := by revert i; decide

/-- The root's waits for the 128 rows. -/
theorem tailRecv_spec (l : List (Dev nD × Cl)) (hl : ∀ x ∈ l, 2 < lvK x.1 x.2) :
    iprop(ctx m K ∗ owe (F := F) 0 l ∗ (pos (0, .trecv 0) ∗ pos (0, .trecv 1)) ∗ (crd (0, .trecv 0) ∗ crd (0, .trecv 1)))
      ⊢ iprop((owe 0 l ∗ (fin m (0, .trecv 0) ∗ fin m (0, .trecv 1)) ∗ (ktPts (ktv m) ∗ vtPts (vtv m)) -∗ Qk ⟨⟩) -∗ WP 0 tailRecvP Qk) := by
  unfold tailRecvP Prog.lift
  iintro ⟨#Hc, HO, ⟨Hp0, Hp1⟩, Hc0, Hc1⟩ Hk
  iapply (w_wait m K 0 (.trecv 0) 0 (dut_trecv 0) l hl (q := qTrecv 0) (src := kHead) (dst := ktM) (hsrc := kHead_exact) (hdst := ktM_exact) rfl rfl) $$ [HO Hp0 Hc0]
  · isplitr; · iexact Hc
    isplitl [HO]; · iexact HO
    isplitl [Hp0]; · iexact Hp0
    iexact Hc0
  iintro ⟨HO, Hf0, Hk0⟩
  iapply (w_wait m K 0 (.trecv 1) 0 (dut_trecv 1) l hl (q := qTrecv 1) (src := vHead) (dst := vtM) (hsrc := vHead_exact) (hdst := vtM_exact) rfl rfl) $$ [HO Hp1 Hc1]
  · isplitr; · iexact Hc
    isplitl [HO]; · iexact HO
    isplitl [Hp1]; · iexact Hp1
    iexact Hc1
  iintro ⟨HO, Hf1, Hk1⟩
  iapply (WP_ret 0 ⟨⟩)
  iapply Hk
  isplitl [HO]; · iexact HO
  isplitl [Hf0 Hf1]
  · isplitl [Hf0]; · iexact Hf0
    iexact Hf1
  isplitl [Hk0]; · iapply (Entails.of_eq (show payK m 0 (.trecv 0) 0 = ktPts (ktv m) by simp [payK])); iexact Hk0
  iapply (Entails.of_eq (show payK m 0 (.trecv 1) 0 = vtPts (vtv m) by simp [payK])); iexact Hk1

/-- The waits for a block to be sent both ways. -/
def rootC (k : Fin 8) : sProp 𝕄 := iprop((pos (0, .send k 0) ∗ pos (0, .send k 1)) ∗ rootB k)
def rootD (k : Fin 8) : sProp 𝕄 := iprop((fin m (0, .send k 0) ∗ fin m (0, .send k 1)) ∗ oBlk 0 k fullShare (OUT m))

theorem both_spec (k : Fin 8) (l : List (Dev nD × Cl)) (hl : ∀ x ∈ l, 0 < lvK x.1 x.2) :
    iprop(ctx m K ∗ owe (F := F) 0 l ∗ rootC k)
      ⊢ iprop((owe 0 l ∗ rootD m k -∗ Qk ⟨⟩) -∗ WP 0 (do sentP k 0; sentP k 1) Qk) := by
  unfold rootC rootD rootB
  iintro ⟨#Hc, HO, ⟨Hp0, Hp1⟩, Hc0, Hc1⟩ Hk
  iapply (WP_bind 0 (sentP k 0) fun _ => sentP k 1)
  iapply (sent_spec m K 0 0 (Or.inl rfl) k l hl) $$ [HO Hp0 Hc0]
  · isplitr; · iexact Hc
    isplitl [HO]; · iexact HO
    isplitl [Hp0]; · iexact Hp0
    iexact Hc0
  iintro ⟨HO, Hf0, Hl⟩
  iapply (sent_spec m K 0 1 (Or.inl rfl) k l hl) $$ [HO Hp1 Hc1]
  · isplitr; · iexact Hc
    isplitl [HO]; · iexact HO
    isplitl [Hp1]; · iexact Hp1
    iexact Hc1
  iintro ⟨HO, Hf1, Hr⟩
  iapply Hk
  isplitl [HO]; · iexact HO
  isplitl [Hf0 Hf1]
  · isplitl [Hf0]; · iexact Hf0
    iexact Hf1
  iapply (oBlk_halves 0 k (OUT m)).2
  isplitl [Hl]; · iexact Hl
  iexact Hr

theorem lv_restL0 : ∀ x ∈ restL 0, 2 < lvK x.1 x.2 := by decide

/-- The root. -/
theorem root_spec :
    iprop(ctx m K ∗ owe (F := F) 0 (restL 0) ∗ (sPts0 m 0 ∗ sPts1 m 0 ∗ sPts2 m 0 ∗ sPts3 m 0 ∗ sPts4 m 0)
        ∗ (pos (0, .trecv 0) ∗ pos (0, .trecv 1)) ∗ (crd (0, .trecv 0) ∗ crd (0, .trecv 1))
        ∗ sepL rootA blks ∗ sepL (fun k => iprop(pos (0, .send k 0) ∗ pos (0, .send k 1))) blks)
      ⊢ iprop((owe 0 [] ∗ (sPts0 m 0 ∗ sPts1 m 0 ∗ sPts2 m 0 ∗ sPts3 m 0 ∗ sPts4 m 0)
        ∗ (fin m (0, .trecv 0) ∗ fin m (0, .trecv 1)) ∗ (ktPts (ktv m) ∗ vtPts (vtv m)) ∗ sepL (rootD m) blks -∗ Qk ⟨⟩)
        -∗ WP 0 rootP Qk) := by
  unfold rootP sPts1 sPts4
  iintro ⟨#Hc, HO, ⟨H0, H1, H2, H3, H4⟩, Htp, Htc, HA, HP⟩ Hk
  iapply (wp_load 𝒱₀ ((0 : Dev nD) : Thread nD τ) none Set.univ (m := wqM) (r := allR.toLoadRect) (Finset.subset_univ _)) $$ H1
  iintro H1
  iapply (wp_load 𝒱₀ ((0 : Dev nD) : Thread nD τ) none Set.univ (m := woM) (r := allR.toLoadRect) (Finset.subset_univ _)) $$ H4
  iintro H4
  rw [show wqM.view.readAt (Elt F) allR.toLoadRect (xs1 m 0) = xs1 m 0 from Memref.readAt_unit_zero (Elt F) cc0_stg1_0 hz2 _ _,
    show woM.view.readAt (Elt F) allR.toLoadRect (xs4 m 0) = xs4 m 0 from Memref.readAt_unit_zero (Elt F) cc0_stg4_0 hz2 _ _]
  ihave HA := (show sepL (F := F) rootA blks ⊢ iprop(sepL rootA [0, 1, 2, 3, 4, 5, 6] ∗ sepL rootA [7]) from (sepL_append rootA [7] [0, 1, 2, 3, 4, 5, 6]).1) $$ HA
  icases HA with ⟨HA, HA7⟩
  ihave HA7 := (Entails.of_eq (show sepL (F := F) rootA [7] = iprop(rootA 7 ∗ emp) from rfl)) $$ HA7
  icases HA7 with ⟨HA7, -⟩
  iapply (WP_bind 0 (eachP (blkP (xs1 m 0) (xs4 m 0)) [0, 1, 2, 3, 4, 5, 6]) fun _ => do
    tailRecvP; lastP (xs1 m 0) (xs4 m 0); eachP (fun k => do sentP k 0; sentP k 1) blks)
  iapply (each_spec m K 0 (blkP (xs1 m 0) (xs4 m 0)) (rootJ m) rootA rootB rootW (fun k => k.val < 7) (fun _ => True)
    (fun k l R hk _ => blk_spec m K k hk l) [0, 1, 2, 3, 4, 5, 6] (rootW 7) _ (by decide) (fun _ _ => trivial)) $$ [HO H0 H2 H3 HA]
  · isplitr; · iexact Hc
    isplitl [HO]; · iexact HO
    isplitl [H0 H2 H3]
    · unfold rootJ
      isplitl [H0]; · iexact H0
      isplitl [H2]; · iexact H2
      iexact H3
    iexact HA
  iintro ⟨HO, HJ, HB⟩
  iapply (WP_bind 0 tailRecvP fun _ => do lastP (xs1 m 0) (xs4 m 0); eachP (fun k => do sentP k 0; sentP k 1) blks)
  iapply (tailRecv_spec m K (rootW 7) (by decide)) $$ [HO Htp Htc]
  · isplitr; · iexact Hc
    isplitl [HO]; · iexact HO
    isplitl [Htp]; · iexact Htp
    iexact Htc
  iintro ⟨HO, Htf, Htt⟩
  iapply (WP_bind 0 (lastP (xs1 m 0) (xs4 m 0)) fun _ => eachP (fun k => do sentP k 0; sentP k 1) blks)
  iapply (last_spec m K []) $$ [HO HJ Htt HA7]
  · isplitr; · iexact Hc
    isplitl [HO]; · iexact HO
    isplitl [HJ]; · iexact HJ
    isplitl [Htt]; · iexact Htt
    iexact HA7
  iintro ⟨HO, HJ, Htt, HB7⟩
  iapply (each_spec m K 0 (fun k => do sentP k 0; sentP k 1) iprop(emp) rootC (rootD m) (fun _ => []) (fun _ => True) (fun x => 0 < lvK x.1 x.2)
    (fun k l R _ hl => by
      iintro ⟨#Hc, HO, -, HC⟩ Hk
      iapply (both_spec m K k l hl) $$ [HO HC]
      · isplitr; · iexact Hc
        isplitl [HO]; · iexact HO
        iexact HC
      iintro ⟨HO, HD⟩
      iapply Hk
      isplitl [HO]; · iexact HO
      isplitr; · iempintro
      iexact HD) blks [] _ (fun _ _ => trivial) (by decide)) $$ [HO HB HB7 HP]
  · isplitr; · iexact Hc
    isplitl [HO]; · iexact HO
    isplitr; · iempintro
    unfold rootC
    iapply (sepL_zip (fun k => iprop(pos (0, .send k 0) ∗ pos (0, .send k 1))) rootB blks)
    isplitl [HP]; · iexact HP
    iapply (show iprop(sepL rootB [0, 1, 2, 3, 4, 5, 6] ∗ sepL rootB [7]) ⊢ sepL (F := F) rootB blks from (sepL_append rootB [7] [0, 1, 2, 3, 4, 5, 6]).2)
    isplitl [HB]; · iexact HB
    rw [sepL_cons, sepL_nil]
    isplitl [HB7]; · iexact HB7
    iempintro
  iintro ⟨HO, -, HD⟩
  iapply Hk
  isplitl [HO]; · iexact HO
  isplitl [HJ H1 H4]
  · unfold rootJ
    icases HJ with ⟨H0, H2, H3⟩
    isplitl [H0]; · iexact H0
    isplitl [H1]; · iexact H1
    isplitl [H2]; · iexact H2
    isplitl [H3]; · iexact H3
    iexact H4
  isplitl [Htf]; · iexact Htf
  isplitl [Htt]; · iexact Htt
  iexact HD

end Cert.KernelIdeal.Run
-- ==== Proof.Chain.lean ====
module

public import proofs.«01_k».proof.Proof.Root

@[expose] public section

set_option maxRecDepth 16384

/-!
# The barrier, and the devices other than the root
-/

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Cl → ℕ)

variable {Qk : PUnit → sProp (MT nD τ sig Unit (Elt F) ℕ UU ℕ)}

/-! ## The barrier -/

theorem lv_rest (c : Dev nD) : ∀ x ∈ restL c, 1 < lvK x.1 x.2 := by revert c; decide

/-- Signalling every device, each with what it is handed, and waiting for all eight. -/
theorem bar_spec (c : Dev nD) :
    iprop(ctx m K ∗ owe (F := F) c (owedL c) ∗ pos (c, .bar) ∗ cred (tallyAt (kcell (c, .bar)) () 8)
        ∗ bigSep Finset.univ fun t : Dev nD => iprop(tok (t, .bar) c ∗ barPay t c))
      ⊢ iprop((owe c (restL c) ∗ fin m (c, .bar) ∗ (bigSep Finset.univ fun d => barPay c d) -∗ Qk ⟨⟩) -∗ WP c barP Qk) := by
  unfold barP Prog.lift owedL
  iintro ⟨#Hc, HO, Hat, Hcr, HT⟩ Hk
  ihave HT := (sepL_all (fun t : Dev nD => iprop(tok (t, .bar) c ∗ barPay t c))) $$ HT
  unfold blks
  simp only [sepL_cons, List.map_cons, List.cons_append, List.map_nil, List.nil_append]
  icases HT with ⟨H0, H1, H2, H3, H4, H5, H6, H7, -⟩
  iapply (w_signal m K c 0 0 rfl (s := barS) rfl _) $$ [HO H0]
  · isplitr; · iexact Hc
    isplitl [HO]; · iexact HO
    iexact H0
  iintro HO
  iapply (w_signal m K c 1 1 rfl (s := barS) rfl _) $$ [HO H1]
  · isplitr; · iexact Hc
    isplitl [HO]; · iexact HO
    iexact H1
  iintro HO
  iapply (w_signal m K c 2 2 rfl (s := barS) rfl _) $$ [HO H2]
  · isplitr; · iexact Hc
    isplitl [HO]; · iexact HO
    iexact H2
  iintro HO
  iapply (w_signal m K c 3 3 rfl (s := barS) rfl _) $$ [HO H3]
  · isplitr; · iexact Hc
    isplitl [HO]; · iexact HO
    iexact H3
  iintro HO
  iapply (w_signal m K c 4 4 rfl (s := barS) rfl _) $$ [HO H4]
  · isplitr; · iexact Hc
    isplitl [HO]; · iexact HO
    iexact H4
  iintro HO
  iapply (w_signal m K c 5 5 rfl (s := barS) rfl _) $$ [HO H5]
  · isplitr; · iexact Hc
    isplitl [HO]; · iexact HO
    iexact H5
  iintro HO
  iapply (w_signal m K c 6 6 rfl (s := barS) rfl _) $$ [HO H6]
  · isplitr; · iexact Hc
    isplitl [HO]; · iexact HO
    iexact H6
  iintro HO
  iapply (w_signal m K c 7 7 rfl (s := barS) rfl _) $$ [HO H7]
  · isplitr; · iexact Hc
    isplitl [HO]; · iexact HO
    iexact H7
  iintro HO
  iapply (w_bar m K c (s := barS) rfl (restL c) (lv_rest c)) $$ [HO Hat Hcr]
  · isplitr; · iexact Hc
    isplitl [HO]; · iexact HO
    isplitl [Hat]; · iexact Hat
    iexact Hcr
  iintro H
  iapply (WP_ret c ⟨⟩)
  iapply Hk; iexact H

/-! ## Passing blocks on -/

/-- What passing a block on takes and leaves. -/
def passA (c : Dev nD) (k : Fin 8) : sProp 𝕄 :=
  iprop(pos (c, .recv k) ∗ crd (c, .recv k) ∗ pos (c, .send k 0) ∗ tok (c, .send k 0) 0 ∗ tok (nx c, .recv k) 0 ∗ (∃ f, oBlk (nx c) k fullShare f))
def passB (c : Dev nD) (k : Fin 8) : sProp 𝕄 := iprop(fin m (c, .recv k) ∗ fin m (c, .send k 0) ∗ oBlk c k fullShare (OUT m))

theorem passStep (c : Dev nD) (h0 : c ≠ 0) (h6 : c ≠ 6) (h7 : c ≠ 7) (hn : nx c ≠ 0) (k : Fin 8) (l : List (Dev nD × Cl))
    (hl : ∀ x ∈ [(nx c, Cl.recv k)] ++ l, 3 + depth c < lvK x.1 x.2) :
    iprop(ctx m K ∗ owe (F := F) c ([(nx c, Cl.recv k)] ++ l) ∗ passA c k)
      ⊢ iprop((owe c l ∗ passB m c k -∗ Qk ⟨⟩) -∗ WP c (do recvP k; sendP k 0 (nx c); sentP k 0) Qk) := by
  have hs : sends c 0 := Or.inr ⟨h6, h7, rfl⟩
  have hq : shareOf c 0 = fullShare := if_neg h0
  unfold passA passB
  iintro ⟨#Hc, HO, Hp, Hr, Hps, Ht, Htn, Ho⟩ Hk
  iapply (WP_bind c (recvP k) fun _ => do sendP k 0 (nx c); sentP k 0)
  iapply (recv_spec m K c h0 k _ hl) $$ [HO Hp Hr]
  · isplitr; · iexact Hc
    isplitl [HO]; · iexact HO
    isplitl [Hp]; · iexact Hp
    iexact Hr
  iintro ⟨HO, Hf, Hb⟩
  iapply (WP_bind c (sendP k 0 (nx c)) fun _ => sentP k 0)
  iapply (send_spec m K c (nx c) 0 hs hn k l) $$ [HO Ht Htn Hb Ho]
  · isplitr; · iexact Hc
    isplitl [HO]; · iexact HO
    isplitl [Ht]; · iexact Ht
    isplitl [Htn]; · iexact Htn
    isplitl [Hb]; · rw [hq]; iexact Hb
    iexact Ho
  iintro ⟨HO, Hcr⟩
  iapply (sent_spec m K c 0 hs k l fun x hx => Nat.lt_of_le_of_lt (Nat.zero_le _) (hl x (List.mem_append_right _ hx))) $$ [HO Hps Hcr]
  · isplitr; · iexact Hc
    isplitl [HO]; · iexact HO
    isplitl [Hps]; · iexact Hps
    iexact Hcr
  iintro ⟨HO, Hfs, Hb⟩
  iapply Hk
  isplitl [HO]; · iexact HO
  isplitl [Hf]; · iexact Hf
  isplitl [Hfs]; · iexact Hfs
  rw [hq]; iexact Hb

theorem pass_spec (c : Dev nD) (h0 : c ≠ 0) (h6 : c ≠ 6) (h7 : c ≠ 7) (hn : nx c ≠ 0) (hd : depth c < depth (nx c)) :
    iprop(ctx m K ∗ owe (F := F) c (blks.map fun k => (nx c, Cl.recv k)) ∗ sepL (passA c) blks)
      ⊢ iprop((owe c [] ∗ sepL (passB m c) blks -∗ Qk ⟨⟩) -∗ WP c (passP c) Qk) := by
  unfold passP
  iintro ⟨#Hc, HO, HA⟩ Hk
  iapply (each_spec m K c (fun k => do recvP k; sendP k 0 (nx c); sentP k 0) iprop(emp) (passA c) (passB m c) (fun k => [(nx c, Cl.recv k)])
    (fun _ => True) (fun x => 3 + depth c < lvK x.1 x.2)
    (fun k l R _ hl => by
      iintro ⟨#Hc, HO, -, HA⟩ Hk
      iapply (passStep m K c h0 h6 h7 hn k l hl) $$ [HO HA]
      · isplitr; · iexact Hc
        isplitl [HO]; · iexact HO
        iexact HA
      iintro ⟨HO, HB⟩
      iapply Hk
      isplitl [HO]; · iexact HO
      isplitr; · iempintro
      iexact HB) blks [] _ (fun _ _ => trivial)
    (fun x hx => by
      rw [List.append_nil, List.mem_flatMap] at hx
      obtain ⟨k, -, hk⟩ := hx
      rw [List.mem_singleton.mp hk]
      show 3 + depth c < 3 + depth (nx c)
      omega)) $$ [HO HA]
  · isplitr; · iexact Hc
    isplitl [HO]; · iexact HO
    isplitr; · iempintro
    iexact HA
  iintro ⟨HO, -, HB⟩
  iapply Hk
  isplitl [HO]; · iexact HO
  iexact HB

/-! ## The leaves -/

def leafA (c : Dev nD) (k : Fin 8) : sProp 𝕄 := iprop(pos (c, .recv k) ∗ crd (c, .recv k))
def leafB (c : Dev nD) (k : Fin 8) : sProp 𝕄 := iprop(fin m (c, .recv k) ∗ oBlk c k fullShare (OUT m))

theorem leaf_spec (c : Dev nD) (h0 : c ≠ 0) :
    iprop(ctx m K ∗ owe (F := F) c [] ∗ sepL (leafA c) blks)
      ⊢ iprop((owe c [] ∗ sepL (leafB m c) blks -∗ Qk ⟨⟩) -∗ WP c leafP Qk) := by
  unfold leafP
  iintro ⟨#Hc, HO, HA⟩ Hk
  iapply (each_spec m K c recvP iprop(emp) (leafA c) (leafB m c) (fun _ => []) (fun _ => True) (fun x => 3 + depth c < lvK x.1 x.2)
    (fun k l R _ hl => by
      unfold leafA leafB
      iintro ⟨#Hc, HO, -, Hp, Hr⟩ Hk
      iapply (recv_spec m K c h0 k l hl) $$ [HO Hp Hr]
      · isplitr; · iexact Hc
        isplitl [HO]; · iexact HO
        isplitl [Hp]; · iexact Hp
        iexact Hr
      iintro ⟨HO, HB⟩
      iapply Hk
      isplitl [HO]; · iexact HO
      isplitr; · iempintro
      iexact HB) blks [] _ (fun _ _ => trivial) (fun x hx => absurd hx (by simp))) $$ [HO HA]
  · isplitr; · iexact Hc
    isplitl [HO]; · iexact HO
    isplitr; · iempintro
    iexact HA
  iintro ⟨HO, -, HB⟩
  iapply Hk
  isplitl [HO]; · iexact HO
  iexact HB

/-! ## Device 1's 128 rows -/

theorem landed_kt (f : (cc0_scratch0 : Ref sig .tc).ty.Contents (Elt F)) :
    (ktM.view.loc ((0 : Dev nD) : Thread nD τ) ↦[ktM.view.set]{fullShare} (ktM.view.write (Elt F) f (kHead.view.read (Elt F) (xs2 m 1)) Finset.univ))
      ⊢ payK (F := F) m 0 (.trecv 0) 0 := by
  rw [show payK (F := F) m 0 (.trecv 0) 0 = ktPts (ktv m) by simp [payK]]
  unfold ktPts ktv
  exact Entails.of_eq (congrArg _ (View.write_whole_univ _ _ _))
theorem landed_vt (f : (cc0_scratch1 : Ref sig .tc).ty.Contents (Elt F)) :
    (vtM.view.loc ((0 : Dev nD) : Thread nD τ) ↦[vtM.view.set]{fullShare} (vtM.view.write (Elt F) f (vHead.view.read (Elt F) (xs3 m 1)) Finset.univ))
      ⊢ payK (F := F) m 0 (.trecv 1) 0 := by
  rw [show payK (F := F) m 0 (.trecv 1) 0 = vtPts (vtv m) by simp [payK]]
  unfold vtPts vtv
  exact Entails.of_eq (congrArg _ (View.write_whole_univ _ _ _))

/-- The two transfers. -/
theorem tail_spec (l : List (Dev nD × Cl)) :
    iprop(ctx m K ∗ owe (F := F) 1 ((0, .trecv 0) :: (0, .trecv 1) :: l) ∗ (tok (1, .tsend 0) 0 ∗ tok (1, .tsend 1) 0) ∗ (tok (0, .trecv 0) 0 ∗ tok (0, .trecv 1) 0)
        ∗ (khPts m ∗ vhPts m) ∗ (∃ f, ktPts f) ∗ (∃ f, vtPts f))
      ⊢ iprop((owe 1 l ∗ (crd (1, .tsend 0) ∗ crd (1, .tsend 1)) -∗ Qk ⟨⟩) -∗ WP 1 tailP Qk) := by
  unfold tailP Prog.lift khPts vhPts ktPts vtPts
  iintro ⟨#Hc, HO, ⟨Ha0, Ha1⟩, ⟨Hb0, Hb1⟩, ⟨Hs0, Hs1⟩, ⟨%f, Hd0⟩, %g, Hd1⟩ Hk
  iapply (w_send m K 1 0 0 rfl (.tsend 0) (.trecv 0) (by decide) (by decide) rfl ((0, .trecv 1) :: l)
    (src := kHead) (dst := ktM) (hsrc := kHead_exact) (hdst := ktM_exact) (hsc := rfl) (hsem := ⟨⟨rfl, Or.inl rfl⟩, trivial⟩)
    (sS := .dma (qTsend 0)) (sem := .dma (qTrecv 0)) rfl rfl rfl fullShare (xs2 m 1) f
    (Entails.of_eq (by simp [payK, khPts])) (landed_kt m f)) $$ [HO Ha0 Hb0 Hs0 Hd0]
  · isplitr; · iexact Hc
    isplitl [HO]; · iexact HO
    isplitl [Ha0]; · iexact Ha0
    isplitl [Hb0]; · iexact Hb0
    isplitl [Hs0]; · iexact Hs0
    iexact Hd0
  iintro ⟨HO, Hc0⟩
  iapply (w_send m K 1 0 0 rfl (.tsend 1) (.trecv 1) (by decide) (by decide) rfl l
    (src := vHead) (dst := vtM) (hsrc := vHead_exact) (hdst := vtM_exact) (hsc := rfl) (hsem := ⟨⟨rfl, Or.inl rfl⟩, trivial⟩)
    (sS := .dma (qTsend 1)) (sem := .dma (qTrecv 1)) rfl rfl rfl fullShare (xs3 m 1) g
    (Entails.of_eq (by simp [payK, vhPts])) (landed_vt m g)) $$ [HO Ha1 Hb1 Hs1 Hd1]
  · isplitr; · iexact Hc
    isplitl [HO]; · iexact HO
    isplitl [Ha1]; · iexact Ha1
    isplitl [Hb1]; · iexact Hb1
    isplitl [Hs1]; · iexact Hs1
    iexact Hd1
  iintro ⟨HO, Hc1⟩
  iapply (WP_ret 1 ⟨⟩)
  iapply Hk
  isplitl [HO]; · iexact HO
  isplitl [Hc0]; · iexact Hc0
  iexact Hc1

/-- The waits for them to be sent. -/
theorem tailSent_spec :
    iprop(ctx m K ∗ owe (F := F) 1 [] ∗ (pos (1, .tsend 0) ∗ pos (1, .tsend 1)) ∗ (crd (1, .tsend 0) ∗ crd (1, .tsend 1)))
      ⊢ iprop((owe 1 [] ∗ (fin m (1, .tsend 0) ∗ fin m (1, .tsend 1)) ∗ (khPts m ∗ vhPts m) -∗ Qk ⟨⟩) -∗ WP 1 tailSentP Qk) := by
  unfold tailSentP Prog.lift
  iintro ⟨#Hc, HO, ⟨Hp0, Hp1⟩, Hc0, Hc1⟩ Hk
  iapply (w_wait m K 1 (.tsend 0) 0 (dut_tsend 0) [] (fun x hx => absurd hx (by simp)) (q := qTsend 0) (src := ktM) (dst := kHead) (hsrc := ktM_exact) (hdst := kHead_exact) rfl rfl) $$ [HO Hp0 Hc0]
  · isplitr; · iexact Hc
    isplitl [HO]; · iexact HO
    isplitl [Hp0]; · iexact Hp0
    iexact Hc0
  iintro ⟨HO, Hf0, Hk0⟩
  iapply (w_wait m K 1 (.tsend 1) 0 (dut_tsend 1) [] (fun x hx => absurd hx (by simp)) (q := qTsend 1) (src := vtM) (dst := vHead) (hsrc := vtM_exact) (hdst := vHead_exact) rfl rfl) $$ [HO Hp1 Hc1]
  · isplitr; · iexact Hc
    isplitl [HO]; · iexact HO
    isplitl [Hp1]; · iexact Hp1
    iexact Hc1
  iintro ⟨HO, Hf1, Hk1⟩
  iapply (WP_ret 1 ⟨⟩)
  iapply Hk
  isplitl [HO]; · iexact HO
  isplitl [Hf0 Hf1]
  · isplitl [Hf0]; · iexact Hf0
    iexact Hf1
  isplitl [Hk0]; · iapply (Entails.of_eq (show payK m 1 (.tsend 0) 0 = khPts m by simp [payK])); iexact Hk0
  iapply (Entails.of_eq (show payK m 1 (.tsend 1) 0 = vhPts m by simp [payK])); iexact Hk1

/-- Device 1: the 128 rows, its blocks, and the 128 rows back. -/
theorem one_spec :
    iprop(ctx m K ∗ owe (F := F) 1 (restL 1) ∗ (sPts2 m 1 ∗ sPts3 m 1) ∗ (tok (1, .tsend 0) 0 ∗ tok (1, .tsend 1) 0) ∗ (tok (0, .trecv 0) 0 ∗ tok (0, .trecv 1) 0)
        ∗ ((∃ f, ktPts f) ∗ (∃ f, vtPts f)) ∗ (pos (1, .tsend 0) ∗ pos (1, .tsend 1)) ∗ sepL (passA 1) blks)
      ⊢ iprop((owe 1 [] ∗ (sPts2 m 1 ∗ sPts3 m 1) ∗ (fin m (1, .tsend 0) ∗ fin m (1, .tsend 1)) ∗ sepL (passB m 1) blks -∗ Qk ⟨⟩)
        -∗ WP 1 (do tailP; passP 1; tailSentP) Qk) := by
  unfold sPts2 sPts3
  iintro ⟨#Hc, HO, ⟨H2, H3⟩, Ha, Hb, Hd, Hp, HA⟩ Hk
  ihave H2 := (pointsTo_split_subset (ℓ := (((1 : Dev nD) : Thread nD τ).loc cc0_stg2_0 : Loc nD τ sig)) (Finset.subset_univ kHead.view.set)).1 $$ H2
  icases H2 with ⟨Hkh, H2⟩
  ihave H3 := (pointsTo_split_subset (ℓ := (((1 : Dev nD) : Thread nD τ).loc cc0_stg3_0 : Loc nD τ sig)) (Finset.subset_univ vHead.view.set)).1 $$ H3
  icases H3 with ⟨Hvh, H3⟩
  iapply (WP_bind 1 tailP fun _ => do passP 1; tailSentP)
  iapply (tail_spec m K (blks.map fun k => (nx 1, Cl.recv k))) $$ [HO Ha Hb Hkh Hvh Hd]
  · isplitr; · iexact Hc
    isplitl [HO]; · iexact HO
    isplitl [Ha]; · iexact Ha
    isplitl [Hb]; · iexact Hb
    isplitl [Hkh Hvh]
    · unfold khPts vhPts
      isplitl [Hkh]; · iexact Hkh
      iexact Hvh
    iexact Hd
  iintro ⟨HO, Hcr⟩
  iapply (WP_bind 1 (passP 1) fun _ => tailSentP)
  iapply (pass_spec m K 1 (by decide) (by decide) (by decide) (by decide) (by decide)) $$ [HO HA]
  · isplitr; · iexact Hc
    isplitl [HO]; · iexact HO
    iexact HA
  iintro ⟨HO, HB⟩
  iapply (tailSent_spec m K) $$ [HO Hp Hcr]
  · isplitr; · iexact Hc
    isplitl [HO]; · iexact HO
    isplitl [Hp]; · iexact Hp
    iexact Hcr
  iintro ⟨HO, Hf, Hkh, Hvh⟩
  unfold khPts vhPts
  ihave H2 := (pointsTo_split_subset (ℓ := (((1 : Dev nD) : Thread nD τ).loc cc0_stg2_0 : Loc nD τ sig)) (Finset.subset_univ kHead.view.set)).2 $$ [Hkh H2]
  · isplitl [Hkh]; · iexact Hkh
    iexact H2
  ihave H3 := (pointsTo_split_subset (ℓ := (((1 : Dev nD) : Thread nD τ).loc cc0_stg3_0 : Loc nD τ sig)) (Finset.subset_univ vHead.view.set)).2 $$ [Hvh H3]
  · isplitl [Hvh]; · iexact Hvh
    iexact H3
  iapply Hk
  isplitl [HO]; · iexact HO
  isplitl [H2 H3]
  · isplitl [H2]; · iexact H2
    iexact H3
  isplitl [Hf]; · iexact Hf
  iexact HB

end Cert.KernelIdeal.Run
-- ==== Proof.Whole.lean ====
module

public import proofs.«01_k».proof.Proof.Chain

@[expose] public section

set_option maxRecDepth 16384

/-!
# A device's whole body
-/

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Cl → ℕ)

variable {Qk : PUnit → sProp (MT nD τ sig Unit (Elt F) ℕ UU ℕ)}

/-! ## Families over a device's semaphores -/

omit [FloatOps F] [Named F] in
theorem sepL_mono {Φ Ψ : Fin 8 → sProp 𝕄} (h : ∀ k, Φ k ⊢ Ψ k) : ∀ ks, sepL Φ ks ⊢ sepL Ψ ks
  | [] => by rw [sepL_nil, sepL_nil]
  | k :: ks => by rw [sepL_cons, sepL_cons]; exact BI.sep_mono (h k) (sepL_mono h ks)

omit [FloatOps F] [Named F] in
theorem sepL_unzip (Φ Ψ : Fin 8 → sProp 𝕄) (ks : List (Fin 8)) : sepL (fun k => iprop(Φ k ∗ Ψ k)) ks ⊢ iprop(sepL Φ ks ∗ sepL Ψ ks) := by
  induction ks with
  | nil => rw [sepL_nil, sepL_nil, sepL_nil]; iintro -; isplitr <;> iempintro
  | cons k ks ih =>
    rw [sepL_cons, sepL_cons, sepL_cons]
    iintro ⟨⟨H1, H2⟩, H⟩
    ihave H := ih $$ H
    icases H with ⟨H3, H4⟩
    isplitl [H1 H3]
    · isplitl [H1]; · iexact H1
      iexact H3
    isplitl [H2]; · iexact H2
    iexact H4

omit [FloatOps F] [Named F] in
theorem bigSep_two (Φ : Fin 2 → sProp 𝕄) : bigSep Finset.univ Φ = iprop(Φ 0 ∗ Φ 1) := bigSep_univ_eq_bigSepL [0, 1] (by decide) (by decide) Φ

omit [FloatOps F] [Named F] in
theorem bigSep_unit (Φ : Unit → sProp 𝕄) : bigSep Finset.univ Φ = Φ () := bigSep_univ_eq_bigSepL [()] (by decide) (by decide) Φ

/-- All but the barrier. -/
def fam (Φ : Cl → sProp 𝕄) : sProp 𝕄 :=
  iprop(sepL (fun k => iprop(Φ (.send k 0) ∗ Φ (.send k 1))) blks ∗ sepL (fun k => Φ (.recv k)) blks
    ∗ (Φ (.tsend 0) ∗ Φ (.tsend 1)) ∗ (Φ (.trecv 0) ∗ Φ (.trecv 1)))

omit [FloatOps F] [Named F] in
theorem fam_eq (Φ : Cl → sProp 𝕄) : bigSep Finset.univ Φ
    = iprop(Φ .bar ∗ (bigSep Finset.univ fun k : Fin 8 => iprop(Φ (.send k 0) ∗ Φ (.send k 1))) ∗ (bigSep Finset.univ fun k : Fin 8 => Φ (.recv k))
      ∗ (Φ (.tsend 0) ∗ Φ (.tsend 1)) ∗ (Φ (.trecv 0) ∗ Φ (.trecv 1))) := by
  rw [bigSep_univ_equiv clEquiv.symm Φ, bigSep_univ_sum, bigSep_univ_sum, bigSep_univ_sum, bigSep_univ_sum, bigSep_univ_prod, bigSep_unit]
  simp only [bigSep_two]
  rfl

omit [FloatOps F] [Named F] in
theorem fam_split (Φ : Cl → sProp 𝕄) : bigSep Finset.univ Φ ⊢ iprop(Φ .bar ∗ fam Φ) := by
  rw [fam_eq]; unfold fam
  iintro ⟨H1, H2, H3, H4, H5⟩
  isplitl [H1]; · iexact H1
  isplitl [H2]; · iapply (sepL_all fun k : Fin 8 => iprop(Φ (.send k 0) ∗ Φ (.send k 1))); iexact H2
  isplitl [H3]; · iapply (sepL_all fun k : Fin 8 => Φ (.recv k)); iexact H3
  isplitl [H4]; · iexact H4
  iexact H5

omit [FloatOps F] [Named F] in
theorem fam_join (Φ : Cl → sProp 𝕄) : iprop(Φ .bar ∗ fam Φ) ⊢ bigSep Finset.univ Φ := by
  rw [fam_eq]; unfold fam
  iintro ⟨H1, H2, H3, H4, H5⟩
  isplitl [H1]; · iexact H1
  isplitl [H2]; · iapply (all_sepL fun k : Fin 8 => iprop(Φ (.send k 0) ∗ Φ (.send k 1))); iexact H2
  isplitl [H3]; · iapply (all_sepL fun k : Fin 8 => Φ (.recv k)); iexact H3
  isplitl [H4]; · iexact H4
  iexact H5

/-! ## What a device starts with and ends with -/

/-- Its two scratch buffers. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

theorem ktPts_eq (f : (cc0_scratch0 : Ref sig .tc).ty.Contents (Elt F)) :
    (ktPts f : sProp 𝕄) = (((0 : Dev nD) : Thread nD τ).loc cc0_scratch0 : Loc nD τ sig) ↦{fullShare} f := by
  unfold ktPts; rw [show ktM.view.set = Finset.univ from View.set_whole _]
theorem vtPts_eq (f : (cc0_scratch1 : Ref sig .tc).ty.Contents (Elt F)) :
    (vtPts f : sProp 𝕄) = (((0 : Dev nD) : Thread nD τ).loc cc0_scratch1 : Loc nD τ sig) ↦{fullShare} f := by
  unfold vtPts; rw [show vtM.view.set = Finset.univ from View.set_whole _]

theorem scr_root : (scr 0 : sProp 𝕄) = iprop((∃ f, ktPts f) ∗ (∃ f, vtPts f)) := by
  simp only [ktPts_eq, vtPts_eq]; rfl

def sPts (c : Dev nD) : sProp 𝕄 := iprop(sPts0 m c ∗ sPts1 m c ∗ sPts2 m c ∗ sPts3 m c ∗ sPts4 m c)
/-- What it does not hand over at the barrier. -/
def keep (c : Dev nD) : sProp 𝕄 := if c = 0 then iprop(∃ f, oPts 0 f) else scr c
/-- The tokens of its own sends, of the blocks it sends, of the 128 rows; its credits. -/
def tokS (c : Dev nD) : sProp 𝕄 := sepL (fun k => iprop(tok (c, .send k 0) 0 ∗ tok (c, .send k 1) 0)) blks
def rtok (c : Dev nD) (k : Fin 8) : sProp 𝕄 :=
  if c = 0 then iprop(tok (1, .recv k) 0 ∗ tok (4, .recv k) 0) else if c = 6 ∨ c = 7 then iprop(emp) else tok (nx c, .recv k) 0
def ttok (c : Dev nD) : sProp 𝕄 :=
  if c = 1 then iprop((tok (1, .tsend 0) 0 ∗ tok (1, .tsend 1) 0) ∗ (tok (0, .trecv 0) 0 ∗ tok (0, .trecv 1) 0)) else iprop(emp)
def crdM (c : Dev nD) : sProp 𝕄 :=
  if c = 0 then iprop(crd (0, .trecv 0) ∗ crd (0, .trecv 1)) else sepL (fun k => crd (c, .recv k)) blks

def midA (c : Dev nD) : sProp 𝕄 :=
  iprop(owe (F := F) c (restL c) ∗ sPts m c ∗ keep c ∗ (bigSep Finset.univ fun d => barPay c d) ∗ fam (fun x => pos (c, x))
    ∗ tokS c ∗ sepL (rtok c) blks ∗ ttok c ∗ crdM c)
def midB (c : Dev nD) : sProp 𝕄 :=
  iprop(owe (F := F) c [] ∗ sPts m c ∗ scr c ∗ oPts c (OUT m) ∗ fam (fun x => fin m (c, x)))

theorem dut_send1 : ∀ (c : Dev nD) (k : Fin 8), c ≠ 0 → dutK c (.send k 1) = ∅ := by decide
theorem dut_leaf : ∀ (c : Dev nD) (k : Fin 8) (j : Fin 2), c = 6 ∨ c = 7 → dutK c (.send k j) = ∅ := by decide
theorem dut_ts : ∀ (c : Dev nD) (i : Fin 2), c ≠ 1 → dutK c (.tsend i) = ∅ := by decide
theorem dut_tr : ∀ (c : Dev nD) (i : Fin 2), c ≠ 0 → dutK c (.trecv i) = ∅ := by decide
theorem dut_r0 : ∀ k : Fin 8, dutK 0 (.recv k) = ∅ := by decide

theorem none_ts (c : Dev nD) (h : c ≠ 1) : iprop(pos (c, .tsend 0) ∗ pos (c, .tsend 1)) ⊢ iprop(fin (F := F) m (c, .tsend 0) ∗ fin m (c, .tsend 1)) :=
  BI.sep_mono (fin_of_none m _ (dut_ts c 0 h)) (fin_of_none m _ (dut_ts c 1 h))
theorem none_tr (c : Dev nD) (h : c ≠ 0) : iprop(pos (c, .trecv 0) ∗ pos (c, .trecv 1)) ⊢ iprop(fin (F := F) m (c, .trecv 0) ∗ fin m (c, .trecv 1)) :=
  BI.sep_mono (fin_of_none m _ (dut_tr c 0 h)) (fin_of_none m _ (dut_tr c 1 h))

theorem out_join (c : Dev nD) : sepL (fun k => oBlk c k fullShare (OUT m)) blks ⊢ (oPts c (OUT m) : sProp 𝕄) := by
  rw [oPts_blocks]; exact all_sepL _

theorem at_some (d : Dev nD) (k : Fin 8) (f : (cc0_stg5_0 : Ref sig .tc).ty.Contents (Elt F)) :
    (oBlk d k fullShare f : sProp 𝕄) ⊢ iprop(∃ f, oBlk d k fullShare f) := by
  iintro H; iexists f; iexact H

/-- The blocks handed over at the barrier, each at some contents. -/
theorem given (c d : Dev nD) (h0 : d ≠ 0) (h : c = pr d) : (barPay c d : sProp 𝕄) ⊢ sepL (fun k => iprop(∃ f, oBlk d k fullShare f)) blks := by
  unfold barPay
  rw [if_neg h0, if_pos h]
  iintro ⟨%f, H⟩
  iapply (sepL_all fun k => iprop(∃ f, oBlk d k fullShare f))
  iapply (show (bigSep Finset.univ fun k => oBlk d k fullShare f : sProp 𝕄) ⊢ bigSep Finset.univ fun k => iprop(∃ f, oBlk d k fullShare f) from
    bigSep_mono fun k _ => at_some d k f)
  iexact H

omit [FloatOps F] [Named F] in
theorem two_of (Φ : Fin 8 → sProp 𝕄) (i j : Fin 8) (h : j ≠ i) : bigSep Finset.univ Φ ⊢ iprop(Φ i ∗ Φ j) := by
  rw [bigSep_univ_at Φ i]
  exact sep_mono_right (bigSep_elim (Finset.mem_erase.mpr ⟨h, Finset.mem_univ j⟩))

theorem root_tok (k : Fin 8) : rtok 0 k ⊢ (iprop(tok (1, .recv k) 0 ∗ tok (4, .recv k) 0) : sProp 𝕄) := by
  unfold rtok; rw [if_pos rfl]
theorem pass_tok (c : Dev nD) (h0 : c ≠ 0) (h6 : c ≠ 6) (h7 : c ≠ 7) (k : Fin 8) : rtok c k ⊢ (tok (nx c, .recv k) 0 : sProp 𝕄) := by
  unfold rtok; rw [if_neg h0, if_neg (by rintro (h | h); exacts [h6 h, h7 h])]

/-! ## Each device -/

theorem mine_root : iprop(ctx m K ∗ midA (F := F) m 0) ⊢ iprop((midB m 0 -∗ Qk ⟨⟩) -∗ WP 0 (mineP 0) Qk) := by
  unfold midA midB fam keep crdM tokS
  rw [show mineP (F := F) 0 = rootP from rfl, if_pos rfl, if_pos rfl]
  iintro ⟨#Hc, HO, HS, ⟨%fo, Ho⟩, HB, ⟨HpS, HpR, HpTS, HpTR⟩, HtS, HtR, -, Hcr⟩ Hk
  ihave HB := (two_of (fun d : Dev nD => barPay (F := F) 0 d) 1 4 (by decide)) $$ HB
  icases HB with ⟨H1, H4⟩
  ihave H1 := (given (F := F) 0 1 (by decide) (by decide)) $$ H1
  ihave H4 := (given (F := F) 0 4 (by decide) (by decide)) $$ H4
  ihave Ho := (show (oPts 0 fo : sProp 𝕄) ⊢ sepL (fun k => iprop(∃ f, oBlk 0 k fullShare f)) blks from by
    rw [oPts_blocks]
    exact BI.Entails.trans (bigSep_mono fun k _ => at_some 0 k fo) (sepL_all fun k => iprop(∃ f, oBlk 0 k fullShare f))) $$ Ho
  ihave HtR := (sepL_mono (F := F) root_tok blks) $$ HtR
  ihave HA := (sepL_zip (fun k => iprop(∃ f, oBlk (F := F) 1 k fullShare f)) (fun k => iprop(∃ f, oBlk 4 k fullShare f)) blks) $$ [H1 H4]
  · isplitl [H1]; · iexact H1
    iexact H4
  ihave HA := (sepL_zip (fun k => iprop(tok (F := F) (1, .recv k) 0 ∗ tok (4, .recv k) 0)) _ blks) $$ [HtR HA]
  · isplitl [HtR]; · iexact HtR
    iexact HA
  ihave HA := (sepL_zip (fun k => iprop(tok (F := F) (0, .send k 0) 0 ∗ tok (0, .send k 1) 0)) _ blks) $$ [HtS HA]
  · isplitl [HtS]; · iexact HtS
    iexact HA
  ihave HA := (sepL_zip (fun k => iprop(∃ f, oBlk (F := F) 0 k fullShare f)) _ blks) $$ [Ho HA]
  · isplitl [Ho]; · iexact Ho
    iexact HA
  ihave HA := (sepL_mono (Ψ := rootA (F := F)) (fun k => by
    unfold rootA
    iintro ⟨H0, ⟨H1, H2⟩, ⟨H3, H4⟩, H5⟩
    isplitl [H0]; · iexact H0
    isplitl [H1]; · iexact H1
    isplitl [H2]; · iexact H2
    isplitl [H3]; · iexact H3
    isplitl [H4]; · iexact H4
    iexact H5) blks) $$ HA
  iapply (root_spec m K) $$ [HO HS HpTR Hcr HA HpS]
  · isplitr; · iexact Hc
    isplitl [HO]; · iexact HO
    isplitl [HS]; · unfold sPts; iexact HS
    isplitl [HpTR]; · iexact HpTR
    isplitl [Hcr]; · iexact Hcr
    isplitl [HA]; · iexact HA
    iexact HpS
  iintro ⟨HO, HS, HfT, ⟨Hkt, Hvt⟩, HD⟩
  unfold rootD
  ihave HD := (sepL_unzip (fun k => iprop(fin m (0, .send k 0) ∗ fin m (0, .send k 1))) (fun k => oBlk 0 k fullShare (OUT m)) blks) $$ HD
  icases HD with ⟨HfS, Ho⟩
  iapply Hk
  isplitl [HO]; · iexact HO
  isplitl [HS]; · unfold sPts; iexact HS
  isplitl [Hkt Hvt]
  · rw [scr_root]
    isplitl [Hkt]; · iexists _; iexact Hkt
    iexists _; iexact Hvt
  isplitl [Ho]; · iapply (out_join m 0); iexact Ho
  isplitl [HfS]; · iexact HfS
  isplitl [HpR]
  · iapply (sepL_mono (Φ := fun k => pos (0, .recv k)) (Ψ := fun k => fin m (0, .recv k)) (fun k => fin_of_none m (0, .recv k) (dut_r0 k)) blks); iexact HpR
  isplitl [HpTS]; · iapply (none_ts m 0 (by decide)); iexact HpTS
  iexact HfT

/-- What passing all blocks on takes. -/
theorem passA_intro (c : Dev nD) (h0 : c ≠ 0) (h6 : c ≠ 6) (h7 : c ≠ 7) (hn : nx c ≠ 0) (hp : c = pr (nx c)) :
    iprop(sepL (fun k => iprop(pos (c, .send k 0) ∗ pos (c, .send k 1))) blks ∗ sepL (fun k => pos (c, .recv k)) blks
        ∗ sepL (fun k => iprop(tok (c, .send k 0) 0 ∗ tok (c, .send k 1) 0)) blks ∗ sepL (rtok c) blks ∗ sepL (fun k => crd (c, .recv k)) blks
        ∗ barPay c (nx c))
      ⊢ (iprop(sepL (passA c) blks ∗ sepL (fun k => pos (c, .send k 1)) blks) : sProp 𝕄) := by
  iintro ⟨HpS, HpR, HtS, HtR, Hcr, HB⟩
  ihave HB := (given (F := F) c (nx c) hn hp) $$ HB
  ihave HtR := (sepL_mono (F := F) (pass_tok c h0 h6 h7) blks) $$ HtR
  ihave HpS := (sepL_unzip (fun k => pos (F := F) (c, .send k 0)) (fun k => pos (c, .send k 1)) blks) $$ HpS
  icases HpS with ⟨HpS, HpS1⟩
  ihave HtS := (sepL_unzip (fun k => tok (F := F) (c, .send k 0) 0) (fun k => tok (c, .send k 1) 0) blks) $$ HtS
  icases HtS with ⟨HtS, -⟩
  ihave HA := (sepL_zip (fun k => tok (F := F) (nx c, .recv k) 0) (fun k => iprop(∃ f, oBlk (nx c) k fullShare f)) blks) $$ [HtR HB]
  · isplitl [HtR]; · iexact HtR
    iexact HB
  ihave HA := (sepL_zip (fun k => tok (F := F) (c, .send k 0) 0) _ blks) $$ [HtS HA]
  · isplitl [HtS]; · iexact HtS
    iexact HA
  ihave HA := (sepL_zip (fun k => pos (F := F) (c, .send k 0)) _ blks) $$ [HpS HA]
  · isplitl [HpS]; · iexact HpS
    iexact HA
  ihave HA := (sepL_zip (fun k => crd (F := F) (c, .recv k)) _ blks) $$ [Hcr HA]
  · isplitl [Hcr]; · iexact Hcr
    iexact HA
  ihave HA := (sepL_zip (fun k => pos (F := F) (c, .recv k)) _ blks) $$ [HpR HA]
  · isplitl [HpR]; · iexact HpR
    iexact HA
  isplitl [HA]; · unfold passA; iexact HA
  iexact HpS1

/-- What it leaves. -/
theorem passB_elim (c : Dev nD) (h0 : c ≠ 0) :
    iprop(sepL (passB m c) blks ∗ sepL (fun k => pos (c, .send k 1)) blks)
      ⊢ (iprop(sepL (fun k => iprop(fin m (c, .send k 0) ∗ fin m (c, .send k 1))) blks ∗ sepL (fun k => fin m (c, .recv k)) blks ∗ oPts c (OUT m)) : sProp 𝕄) := by
  unfold passB
  iintro ⟨HB, HpS⟩
  ihave HB := (sepL_unzip (fun k => fin m (c, .recv k)) (fun k => iprop(fin m (c, .send k 0) ∗ oBlk c k fullShare (OUT m))) blks) $$ HB
  icases HB with ⟨HR, HB⟩
  ihave HB := (sepL_unzip (fun k => fin m (c, .send k 0)) (fun k => oBlk c k fullShare (OUT m)) blks) $$ HB
  icases HB with ⟨HS, Ho⟩
  ihave HpS := (sepL_mono (Φ := fun k => pos (c, .send k 1)) (Ψ := fun k => fin m (c, .send k 1)) (fun k => fin_of_none m (c, .send k 1) (dut_send1 c k h0)) blks) $$ HpS
  isplitl [HS HpS]
  · iapply (sepL_zip (fun k => fin m (c, .send k 0)) (fun k => fin m (c, .send k 1)) blks)
    isplitl [HS]; · iexact HS
    iexact HpS
  isplitl [HR]; · iexact HR
  iapply (out_join m c); iexact Ho

theorem mine_pass (c : Dev nD) (h0 : c ≠ 0) (h1 : c ≠ 1) (h6 : c ≠ 6) (h7 : c ≠ 7) :
    iprop(ctx m K ∗ midA (F := F) m c) ⊢ iprop((midB m c -∗ Qk ⟨⟩) -∗ WP c (mineP c) Qk) := by
  have h67 : ¬(c = 6 ∨ c = 7) := by rintro (h | h); exacts [h6 h, h7 h]
  have hn : nx c ≠ 0 := by revert c; decide
  have hp : c = pr (nx c) := by revert c; decide
  have hd : depth c < depth (nx c) := by revert c; decide
  unfold midA midB fam keep crdM tokS restL
  rw [show mineP (F := F) c = passP c by unfold mineP; rw [if_neg h0, if_neg h1, if_neg h67], if_neg h0, if_neg h0, if_neg h0, if_neg h1, if_neg h67]
  iintro ⟨#Hc, HO, HS, Hscr, HB, ⟨HpS, HpR, HpTS, HpTR⟩, HtS, HtR, -, Hcr⟩ Hk
  ihave HB := (pick (fun d : Dev nD => barPay (F := F) c d) (nx c)) $$ HB
  ihave HA := (passA_intro (F := F) c h0 h6 h7 hn hp) $$ [HpS HpR HtS HtR Hcr HB]
  · isplitl [HpS]; · iexact HpS
    isplitl [HpR]; · iexact HpR
    isplitl [HtS]; · iexact HtS
    isplitl [HtR]; · iexact HtR
    isplitl [Hcr]; · iexact Hcr
    iexact HB
  icases HA with ⟨HA, HpS⟩
  iapply (pass_spec m K c h0 h6 h7 hn hd) $$ [HO HA]
  · isplitr; · iexact Hc
    isplitl [HO]; · iexact HO
    iexact HA
  iintro ⟨HO, HB⟩
  ihave HB := (passB_elim m c h0) $$ [HB HpS]
  · isplitl [HB]; · iexact HB
    iexact HpS
  icases HB with ⟨HfS, HfR, Ho⟩
  iapply Hk
  isplitl [HO]; · iexact HO
  isplitl [HS]; · iexact HS
  isplitl [Hscr]; · iexact Hscr
  isplitl [Ho]; · iexact Ho
  isplitl [HfS]; · iexact HfS
  isplitl [HfR]; · iexact HfR
  isplitl [HpTS]; · iapply (none_ts m c h1); iexact HpTS
  iapply (none_tr m c h0); iexact HpTR

theorem mine_one : iprop(ctx m K ∗ midA (F := F) m 1) ⊢ iprop((midB m 1 -∗ Qk ⟨⟩) -∗ WP 1 (mineP 1) Qk) := by
  unfold midA midB fam keep crdM tokS ttok sPts
  rw [show mineP (F := F) 1 = (do tailP; passP 1; tailSentP) from rfl, if_neg (show ¬(1 : Dev nD) = 0 by decide),
    if_neg (show ¬(1 : Dev nD) = 0 by decide), if_pos (show (1 : Dev nD) = 1 from rfl)]
  iintro ⟨#Hc, HO, ⟨H0, H1, H2, H3, H4⟩, Hscr, HB, ⟨HpS, HpR, HpTS, HpTR⟩, HtS, HtR, ⟨Hta, Htb⟩, Hcr⟩ Hk
  ihave HB := (two_of (fun d : Dev nD => barPay (F := F) 1 d) 0 (nx 1) (by decide)) $$ HB
  icases HB with ⟨HB0, HB⟩
  ihave HA := (passA_intro (F := F) 1 (by decide) (by decide) (by decide) (by decide) (by decide)) $$ [HpS HpR HtS HtR Hcr HB]
  · isplitl [HpS]; · iexact HpS
    isplitl [HpR]; · iexact HpR
    isplitl [HtS]; · iexact HtS
    isplitl [HtR]; · iexact HtR
    isplitl [Hcr]; · iexact Hcr
    iexact HB
  icases HA with ⟨HA, HpS⟩
  iapply (one_spec m K) $$ [HO H2 H3 Hta Htb HB0 HpTS HA]
  · isplitr; · iexact Hc
    isplitl [HO]; · iexact HO
    isplitl [H2 H3]
    · isplitl [H2]; · iexact H2
      iexact H3
    isplitl [Hta]; · iexact Hta
    isplitl [Htb]; · iexact Htb
    isplitl [HB0]
    · iapply (Entails.of_eq (show (barPay 1 0 : sProp 𝕄) = iprop((∃ f, ktPts f) ∗ (∃ f, vtPts f)) by unfold barPay; rw [if_pos rfl, if_pos rfl])); iexact HB0
    isplitl [HpTS]; · iexact HpTS
    iexact HA
  iintro ⟨HO, ⟨H2, H3⟩, HfT, HB⟩
  ihave HB := (passB_elim m 1 (by decide)) $$ [HB HpS]
  · isplitl [HB]; · iexact HB
    iexact HpS
  icases HB with ⟨HfS, HfR, Ho⟩
  iapply Hk
  isplitl [HO]; · iexact HO
  isplitl [H0 H1 H2 H3 H4]
  · isplitl [H0]; · iexact H0
    isplitl [H1]; · iexact H1
    isplitl [H2]; · iexact H2
    isplitl [H3]; · iexact H3
    iexact H4
  isplitl [Hscr]; · iexact Hscr
  isplitl [Ho]; · iexact Ho
  isplitl [HfS]; · iexact HfS
  isplitl [HfR]; · iexact HfR
  isplitl [HfT]; · iexact HfT
  iapply (none_tr m 1 (by decide)); iexact HpTR

theorem mine_leaf (c : Dev nD) (h : c = 6 ∨ c = 7) :
    iprop(ctx m K ∗ midA (F := F) m c) ⊢ iprop((midB m c -∗ Qk ⟨⟩) -∗ WP c (mineP c) Qk) := by
  have h0 : c ≠ 0 := by revert c; decide
  have h1 : c ≠ 1 := by revert c; decide
  unfold midA midB fam keep crdM restL
  rw [show mineP (F := F) c = leafP by unfold mineP; rw [if_neg h0, if_neg h1, if_pos h], if_neg h0, if_neg h0, if_neg h0, if_neg h1, if_pos h]
  iintro ⟨#Hc, HO, HS, Hscr, -, ⟨HpS, HpR, HpTS, HpTR⟩, -, -, -, Hcr⟩ Hk
  ihave HA := (sepL_zip (fun k => pos (F := F) (c, .recv k)) (fun k => crd (c, .recv k)) blks) $$ [HpR Hcr]
  · isplitl [HpR]; · iexact HpR
    iexact Hcr
  iapply (leaf_spec m K c h0) $$ [HO HA]
  · isplitr; · iexact Hc
    isplitl [HO]; · iexact HO
    unfold leafA; iexact HA
  iintro ⟨HO, HB⟩
  unfold leafB
  ihave HB := (sepL_unzip (fun k => fin m (c, .recv k)) (fun k => oBlk c k fullShare (OUT m)) blks) $$ HB
  icases HB with ⟨HfR, Ho⟩
  iapply Hk
  isplitl [HO]; · iexact HO
  isplitl [HS]; · iexact HS
  isplitl [Hscr]; · iexact Hscr
  isplitl [Ho]; · iapply (out_join m c); iexact Ho
  isplitl [HpS]
  · iapply (sepL_mono (Φ := fun k => iprop(pos (c, .send k 0) ∗ pos (c, .send k 1))) (Ψ := fun k => iprop(fin m (c, .send k 0) ∗ fin m (c, .send k 1)))
      (fun k => BI.sep_mono (fin_of_none m (c, .send k 0) (dut_leaf c k 0 h)) (fin_of_none m (c, .send k 1) (dut_leaf c k 1 h))) blks); iexact HpS
  isplitl [HfR]; · iexact HfR
  isplitl [HpTS]; · iapply (none_ts m c h1); iexact HpTS
  iapply (none_tr m c h0); iexact HpTR

theorem mine_spec (c : Dev nD) : iprop(ctx m K ∗ midA (F := F) m c) ⊢ iprop((midB m c -∗ Qk ⟨⟩) -∗ WP c (mineP c) Qk) := by
  by_cases h0 : c = 0
  · subst h0; exact mine_root m K
  by_cases h1 : c = 1
  · subst h1; exact mine_one m K
  by_cases h : c = 6 ∨ c = 7
  · exact mine_leaf m K c h
  · exact mine_pass m K c h0 h1 (fun e => h (Or.inl e)) (fun e => h (Or.inr e))

/-! ## With the barrier -/

/-- What a device starts with, what it ends with. -/
def devA (c : Dev nD) : sProp 𝕄 :=
  iprop(owe (F := F) c (owedL c) ∗ sPts m c ∗ scr c ∗ (∃ f, oPts c f) ∗ (bigSep Finset.univ fun x => pos (c, x)) ∗ (bigSep Finset.univ fun t : Dev nD => tok (t, .bar) c)
    ∗ cred (tallyAt (kcell (c, .bar)) () 8) ∗ tokS c ∗ sepL (rtok c) blks ∗ ttok c ∗ crdM c)
def devB (c : Dev nD) : sProp 𝕄 :=
  iprop(owe (F := F) c [] ∗ sPts m c ∗ scr c ∗ oPts c (OUT m) ∗ (bigSep Finset.univ fun x => fin m (c, x)))

omit [FloatOps F] [Named F] in
theorem give_one (Φ : Fin 8 → sProp 𝕄) (i : Fin 8) (h : ∀ j, j ≠ i → Φ j = iprop(emp)) : Φ i ⊢ bigSep Finset.univ Φ := by
  rw [bigSep_univ_at Φ i, bigSep_congr (s := Finset.univ.erase i) (Ψ := fun _ => (BI.emp : sProp 𝕄)) fun j hj => h j (Finset.ne_of_mem_erase hj), bigSep_emp_const]
  iintro H; isplitl; · iexact H
  iempintro

/-- What a device hands over. -/
theorem hand (c : Dev nD) : iprop(scr c ∗ (∃ f, oPts c f)) ⊢ (iprop(keep c ∗ bigSep Finset.univ fun t : Dev nD => barPay t c) : sProp 𝕄) := by
  unfold keep
  by_cases h0 : c = 0
  · subst h0
    rw [if_pos rfl, scr_root]
    iintro ⟨H1, H2⟩
    isplitl [H2]; · iexact H2
    iapply (give_one (fun t : Dev nD => barPay (F := F) t 0) 1 fun j hj => by unfold barPay; rw [if_pos rfl, if_neg hj])
    iapply (Entails.of_eq (show iprop((∃ f, ktPts f) ∗ (∃ f, vtPts f)) = (barPay 1 0 : sProp 𝕄) by unfold barPay; rw [if_pos rfl, if_pos rfl])); iexact H1
  · rw [if_neg h0]
    iintro ⟨H1, %f, H2⟩
    isplitl [H1]; · iexact H1
    iapply (give_one (fun t : Dev nD => barPay (F := F) t c) (pr c) fun j hj => by unfold barPay; rw [if_neg h0, if_neg hj])
    iapply (Entails.of_eq (show iprop(∃ f, bigSep Finset.univ fun k => oBlk c k fullShare f) = (barPay (pr c) c : sProp 𝕄) by unfold barPay; rw [if_neg h0, if_pos rfl]))
    iexists f
    iapply (Entails.of_eq (oPts_blocks c f)); iexact H2

theorem dev_spec (c : Dev nD) :
    iprop(ctx m K ∗ devA (F := F) m c) ⊢ iprop((devB m c -∗ Qk ⟨⟩) -∗ WP c (do barP; mineP c) Qk) := by
  unfold devA devB
  iintro ⟨#Hc, HO, HS, Hscr, Ho, Hp, Htb, Hcb, HtS, HtR, HtT, Hcr⟩ Hk
  ihave Hh := (hand (F := F) c) $$ [Hscr Ho]
  · isplitl [Hscr]; · iexact Hscr
    iexact Ho
  icases Hh with ⟨Hkeep, Hg⟩
  ihave Hp := (fam_split fun x => pos (F := F) (c, x)) $$ Hp
  icases Hp with ⟨Hpb, Hp⟩
  iapply (WP_bind c barP fun _ => mineP c)
  iapply (bar_spec m K c) $$ [HO Hpb Hcb Htb Hg]
  · isplitr; · iexact Hc
    isplitl [HO]; · iexact HO
    isplitl [Hpb]; · iexact Hpb
    isplitl [Hcb]; · iexact Hcb
    iapply (Entails.of_eq (bigSep_sep' Finset.univ (fun t : Dev nD => tok (F := F) (t, .bar) c) (fun t => barPay t c)).symm)
    isplitl [Htb]; · iexact Htb
    iexact Hg
  iintro ⟨HO, Hfb, HB⟩
  iapply (mine_spec m K c) $$ [HO HS Hkeep HB Hp HtS HtR HtT Hcr]
  · isplitr; · iexact Hc
    unfold midA
    isplitl [HO]; · iexact HO
    isplitl [HS]; · iexact HS
    isplitl [Hkeep]; · iexact Hkeep
    isplitl [HB]; · iexact HB
    isplitl [Hp]; · iexact Hp
    isplitl [HtS]; · iexact HtS
    isplitl [HtR]; · iexact HtR
    isplitl [HtT]; · iexact HtT
    iexact Hcr
  unfold midB
  iintro ⟨HO, HS, Hscr, Ho, Hf⟩
  iapply Hk
  isplitl [HO]; · iexact HO
  isplitl [HS]; · iexact HS
  isplitl [Hscr]; · iexact Hscr
  isplitl [Ho]; · iexact Ho
  iapply (fam_join fun x => fin m (c, x))
  isplitl [Hfb]; · iexact Hfb
  iexact Hf

end Cert.KernelIdeal.Run
-- ==== Proof.Launch.lean ====
module

public import proofs.«01_k».proof.Proof.Whole
public import proofs.«01_k».proof.Proof.Gen.KernelIdeal.Launch
public import Idealize.ShloMosaic.Lib.Pipeline.CollectiveSegs

@[expose] public section

set_option maxRecDepth 16384

/-!
# The launch and the run
-/

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable {Qk : PUnit → sProp (MT nD τ sig Unit (Elt F) ℕ UU ℕ)}

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device holds at launch of positions and of tokens. -/
def payT (c : Dev nD) : sProp 𝕄 :=
  iprop((bigSep Finset.univ fun t : Dev nD => tok (t, .bar) c) ∗ tokS c ∗ sepL (rtok c) blks ∗ ttok c)
def lin (c : Dev nD) : sProp 𝕄 := iprop((bigSep Finset.univ fun x => pos (c, x)) ∗ payT c)
def start (c : Dev nD) : sProp 𝕄 :=
  iprop((∃ K, ctx m K ∗ lin c) ∗ cred (tallyAt (kcell (c, .bar)) () 8) ∗ crdM c)
def zeros (c : Dev nD) : sProp 𝕄 := bigSep Finset.univ fun x : Cl => semVal (kcell (c, x)) 0
def Φ₀ (c : Dev nD) : sProp 𝕄 := iprop(start m c ∗ scr c)
def Φ₁ (c : Dev nD) : sProp 𝕄 := iprop(scr c ∗ zeros c)

def O₀ (c : Dev nD) : CellTallies nD τ sig Unit := Osum (owedL c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs0 m c
    | ⟨1, _⟩ => xs1 m c
    | ⟨2, _⟩ => xs2 m c
    | ⟨3, _⟩ => xs3 m c
    | ⟨4, _⟩ => xs4 m c
    | ⟨5, _⟩ => OUT m
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] [Named F] in
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] [Named F] in
theorem stg_elim (c : Dev nD) (b : Ref sig .tc) (X Y : b.ty.Contents (Elt F)) (h : X = Y) :
    (stg c b X : sProp 𝕄) ⊢ iprop(((c : Thread nD τ).loc b) ↦{fullShare} Y) := by
  subst h
  iintro ⟨%f, %hf, H⟩
  subst hf
  iexact H

omit [FloatOps F] [Named F] in
theorem stg_intro (c : Dev nD) (b : Ref sig .tc) (X : b.ty.Contents (Elt F)) :
    iprop(((c : Thread nD τ).loc b) ↦{fullShare} X) ⊢ (stg c b X : sProp 𝕄) := by
  iintro H
  iexists X
  isplitr; · ipureintro; rfl
  iexact H

/-! ## The body -/

theorem closeAll (K : Dev nD × Cl → ℕ) (c : Dev nD) :
    iprop(ctx m K ∗ bigSep Finset.univ fun x => fin m (c, x)) ⊢ (iprop(|={Set.univ}=> zeros c) : sProp 𝕄) := by
  unfold zeros
  exact BI.Entails.trans (BI.bigSep_with_persistent (R := ctx m K) fun x _ => fin_close m K (c, x)) (bigSep_fupd _ _)

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ ∗ stg c cc0_stg0_0 (xs0 m c) ∗ stg c cc0_stg1_0 (xs1 m c) ∗ stg c cc0_stg2_0 (xs2 m c)
    ∗ stg c cc0_stg3_0 (xs3 m c) ∗ stg c cc0_stg4_0 (xs4 m c) ∗ stg c cc0_stg5_0 (OUT m))

theorem WP_fupd (c : Dev nD) {α : Type} (p : Prog (TpuEff nD τ sig (Elt F) Λ₀ .tc) α) (R : α → sProp 𝕄) :
    WP c p (fun a => iprop(|={Set.univ}=> R a)) ⊢ WP c p R := wp_fupd _ _ _ _ _

theorem dev_sound (c : Dev nD) : bodyPre m ρ c ⊢ WP c (callP (F := F)) (fun _ => bodyPost m ρ c) := by
  rw [call_eq]
  unfold bodyPre Φ₀ start lin payT Dat.owesAt Pipeline.owesWithin bodyP
  iintro ⟨⟨⟨⟨%K, #Hc, Hp, Htb, HtS, HtR, HtT⟩, Hcb, Hcr⟩, Hscr⟩, ⟨%W, %hW, HO⟩, ⟨%d0, H0⟩, ⟨%d1, H1⟩, ⟨%d2, H2⟩, ⟨%d3, H3⟩, ⟨%d4, H4⟩, %d5, %g5, %hg5, H5⟩
  ihave H0 := (stg_elim c cc0_stg0_0 _ (xs0 m c) (by unfold Dat.before; rw [if_pos (fetch0_0 t₀)]; rfl)) $$ H0
  ihave H1 := (stg_elim c cc0_stg1_0 _ (xs1 m c) (by unfold Dat.before; rw [if_pos (fetch0_1 t₀)]; rfl)) $$ H1
  ihave H2 := (stg_elim c cc0_stg2_0 _ (xs2 m c) (by unfold Dat.before; rw [if_pos (fetch0_2 t₀)]; rfl)) $$ H2
  ihave H3 := (stg_elim c cc0_stg3_0 _ (xs3 m c) (by unfold Dat.before; rw [if_pos (fetch0_3 t₀)]; rfl)) $$ H3
  ihave H4 := (stg_elim c cc0_stg4_0 _ (xs4 m c) (by unfold Dat.before; rw [if_pos (fetch0_4 t₀)]; rfl)) $$ H4
  iapply (WP_fupd c)
  iapply (show WP c (do barP; mineP c) (fun _ => iprop(|={Set.univ}=> bodyPost m ρ c))
      ⊢ WP c (do let c ← Prog.lift .deviceId; barP; mineP c) (fun _ => iprop(|={Set.univ}=> bodyPost m ρ c)) from
    (Entails.of_eq (wp_deviceId (defs := defs₀ (F := F)) (𝒱 := 𝒱₀) (c := (c : Thread nD τ)) (bd := none) (Γ := _) (k := fun c => (do barP; mineP c))
      (Q := fun _ => iprop(|={Set.univ}=> bodyPost m ρ c)) ..).symm))
  iapply (dev_spec m K c) $$ [HO H0 H1 H2 H3 H4 H5 Hscr Hp Htb Hcb HtS HtR HtT Hcr]
  · isplitr; · iexact Hc
    unfold devA
    isplitl [HO]; · unfold owe; iexists W; iexact HO
    isplitl [H0 H1 H2 H3 H4]
    · unfold sPts sPts0 sPts1 sPts2 sPts3 sPts4
      isplitl [H0]; · iexact H0
      isplitl [H1]; · iexact H1
      isplitl [H2]; · iexact H2
      isplitl [H3]; · iexact H3
      iexact H4
    isplitl [Hscr]; · iexact Hscr
    isplitl [H5]; · iexists g5; iexact H5
    isplitl [Hp]; · iexact Hp
    isplitl [Htb]; · iexact Htb
    isplitl [Hcb]; · iexact Hcb
    isplitl [HtS]; · iexact HtS
    isplitl [HtR]; · iexact HtR
    isplitl [HtT]; · iexact HtT
    iexact Hcr
  unfold devB sPts sPts0 sPts1 sPts2 sPts3 sPts4 owe
  iintro ⟨⟨%W', HO⟩, ⟨H0, H1, H2, H3, H4⟩, Hscr, H5, Hf⟩
  imod (closeAll m K c) $$ [Hf] with Hz
  · isplitr; · iexact Hc
    iexact Hf
  imodintro
  unfold bodyPost Φ₁ Dat.owesAt Pipeline.owesWithin
  rw [show (dats m ρ 0 c).owed t₀.succ = 0 from rfl]
  isplitl [Hscr Hz]
  · isplitl [Hscr]; · iexact Hscr
    iexact Hz
  isplitl [HO]
  · iexists W'
    isplitr; · ipureintro; exact fun _ _ => Or.inl trivial
    iexact HO
  isplitl [H0]; · iapply (stg_intro c cc0_stg0_0 (xs0 m c)); iexact H0
  isplitl [H1]; · iapply (stg_intro c cc0_stg1_0 (xs1 m c)); iexact H1
  isplitl [H2]; · iapply (stg_intro c cc0_stg2_0 (xs2 m c)); iexact H2
  isplitl [H3]; · iapply (stg_intro c cc0_stg3_0 (xs3 m c)); iexact H3
  isplitl [H4]; · iapply (stg_intro c cc0_stg4_0 (xs4 m c)); iexact H4
  iapply (stg_intro c cc0_stg5_0 (OUT m)); iexact H5

theorem body_obligation (c : Dev nD) : BodyObligation (dats (F := F) m ρ 0 c) (defs₀ (F := F)) 𝒱₀ () Set.univ := fun t => by
  rw [fin_N t]
  rw [bigSep_W, bigSep_W]
  simp only [owns_whole_eq]
  exact dev_sound m ρ c

/-! ## The launch -/

/-- A device's own semaphores, all but the barrier. -/
abbrev Ow : Type := (Fin 8 × Fin 2) ⊕ Fin 8 ⊕ Fin 2 ⊕ Fin 2
def osem (a : Ow) : SemLoc sig := csem (clEquiv.symm (.inr a))

theorem ownSemFacts : Pipeline.OwnSemFacts cfg0.spec osem where
  isScoped := by decide
  inj := fun a b h => Sum.inr.inj (clEquiv.symm.injective (csem_inj h))
  disj := by decide

theorem share_eq (c : Dev nD) (w : Fin cfg0.W) : (dats m ρ 0 c).share w = fullShare := by unfold Dat.share; split <;> rfl

theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  unfold zeros
  rw [bigSep_univ_equiv clEquiv.symm, bigSep_univ_sum, bigSep_unit, show (unscopedSems0 c : sProp 𝕄) = semVal (kcell (c, .bar)) 0 from by
    unfold unscopedSems0; rw [bigSep_eq_bigSepL_of_eq [SemLoc.reg barS] (by decide) (by decide)]; rfl]
  rfl

/-! ### The tokens -/

def theCells : Finset (GSem nD τ sig) := Finset.univ.map ⟨kcell, kcell_inj⟩
abbrev tokOf (p : (Dev nD × Cl) × Fin 8) : GSem nD τ sig × ℕ × Fin 8 := (kcell p.1, 0, p.2)
theorem tokOf_inj : Function.Injective tokOf := fun p p' h => by
  have h1 : kcell p.1 = kcell p'.1 := congrArg (fun x : GSem nD τ sig × ℕ × Fin 8 => x.1) h
  have h2 : p.2 = p'.2 := congrArg (fun x : GSem nD τ sig × ℕ × Fin 8 => x.2.2) h
  exact Prod.ext (kcell_inj h1) h2
def theToks : Finset (GSem nD τ sig × ℕ × Fin 8) := Finset.univ.map ⟨tokOf, tokOf_inj⟩

def u₀ : UU := (initOf (Pipeline.cells cfgs cellOf_inj) (Pipeline.launchToks cfgs cellOf_inj), initOf theCells theToks)

/-- The tokens of a device's own semaphores. -/
def ownT (c : Dev nD) : sProp 𝕄 :=
  iprop((bigSep Finset.univ fun d : Fin 8 => tok (c, .bar) d) ∗ tokS c ∗ sepL (fun k => tok (c, .recv k) 0) blks
    ∗ (tok (c, .tsend 0) 0 ∗ tok (c, .tsend 1) 0) ∗ (tok (c, .trecv 0) 0 ∗ tok (c, .trecv 1) 0))

theorem ownT_intro (c : Dev nD) : (bigSep Finset.univ fun x : Cl => bigSep Finset.univ fun d : Fin 8 => tok (c, x) d) ⊢ (ownT c : sProp 𝕄) := by
  unfold ownT tokS
  have one (x : Cl) : (bigSep Finset.univ fun d : Fin 8 => tok (c, x) d) ⊢ (tok (c, x) 0 : sProp 𝕄) := pick (fun d => tok (c, x) d) 0
  iintro H
  ihave H := (fam_split fun x : Cl => bigSep Finset.univ fun d : Fin 8 => tok (F := F) (c, x) d) $$ H
  unfold fam
  icases H with ⟨Hb, HS, HR, ⟨H0, H1⟩, H2, H3⟩
  isplitl [Hb]; · iexact Hb
  isplitl [HS]
  · iapply (sepL_mono (fun k => BI.sep_mono (one (.send k 0)) (one (.send k 1))) blks); iexact HS
  isplitl [HR]; · iapply (sepL_mono (fun k => one (.recv k)) blks); iexact HR
  isplitl [H0 H1]
  · isplitl [H0]; · iapply (one (.tsend 0)); iexact H0
    iapply (one (.tsend 1)); iexact H1
  isplitl [H2]; · iapply (one (.trecv 0)); iexact H2
  iapply (one (.trecv 1)); iexact H3

/-- Each barrier's tokens to the devices that signal it. -/
theorem deal_bar : (bigSep Finset.univ fun c : Dev nD => bigSep Finset.univ fun d : Fin 8 => tok (c, .bar) d)
    = (bigSep Finset.univ fun c : Dev nD => bigSep Finset.univ fun t : Dev nD => tok (t, .bar) c : sProp 𝕄) := by
  rw [← bigSep_univ_prod (fun p : Dev nD × Fin 8 => tok (F := F) (p.1, .bar) p.2), bigSep_univ_equiv (Equiv.prodComm (Fin 8) (Dev nD)), bigSep_univ_prod]
  rfl

theorem tok_pass (c : Dev nD) (h0 : c ≠ 0) (h : ¬(c = 6 ∨ c = 7)) (k : Fin 8) : tok (nx c, .recv k) 0 ⊢ (rtok c k : sProp 𝕄) := by
  unfold rtok; rw [if_neg h0, if_neg h]
theorem leaf_tok (c : Dev nD) (h : c = 6 ∨ c = 7) : iprop(emp) ⊢ (sepL (rtok c) blks : sProp 𝕄) := by
  have h0 : c ≠ 0 := by revert c; decide
  have e : rtok (F := F) c = fun _ => iprop(emp) := funext fun k => by unfold rtok; rw [if_neg h0, if_pos h]
  rw [e]
  iintro -
  unfold blks
  simp only [sepL_cons, sepL_nil]
  (repeat' isplitr) <;> iempintro

/-- Each block's token to the device that sends it. -/
theorem deal_recv : (bigSep Finset.univ fun c : Dev nD => sepL (fun k => tok (c, .recv k) 0) blks)
    ⊢ (bigSep Finset.univ fun c : Dev nD => sepL (rtok c) blks : sProp 𝕄) := by
  iintro H
  ihave H := (sepL_all fun c : Dev nD => sepL (fun k => tok (F := F) (c, .recv k) 0) blks) $$ H
  iapply (all_sepL fun c : Dev nD => sepL (rtok (F := F) c) blks)
  unfold blks
  simp only [sepL_cons (fun c : Dev nD => sepL (fun k => tok (F := F) (c, .recv k) 0) blks), sepL_cons (fun c : Dev nD => sepL (rtok (F := F) c) blks),
    sepL_nil (fun c : Dev nD => sepL (fun k => tok (F := F) (c, .recv k) 0) blks), sepL_nil (fun c : Dev nD => sepL (rtok (F := F) c) blks)]
  icases H with ⟨-, H1, H2, H3, H4, H5, H6, H7, -⟩
  isplitl [H1 H4]
  · iapply (sepL_mono (fun k => Entails.of_eq (show iprop(tok (F := F) (1, .recv k) 0 ∗ tok (4, .recv k) 0) = rtok 0 k from (if_pos rfl).symm)) blks)
    iapply (sepL_zip (fun k => tok (F := F) (1, .recv k) 0) (fun k => tok (4, .recv k) 0) blks)
    isplitl [H1]; · iexact H1
    iexact H4
  isplitl [H2]; · iapply (sepL_mono (tok_pass 1 (by decide) (by decide)) blks); iexact H2
  isplitl [H3]; · iapply (sepL_mono (tok_pass 2 (by decide) (by decide)) blks); iexact H3
  isplitl [H7]; · iapply (sepL_mono (tok_pass 3 (by decide) (by decide)) blks); iexact H7
  isplitl [H5]; · iapply (sepL_mono (tok_pass 4 (by decide) (by decide)) blks); iexact H5
  isplitl [H6]; · iapply (sepL_mono (tok_pass 5 (by decide) (by decide)) blks); iexact H6
  isplitr; · iapply (leaf_tok (F := F) 6 (by decide)); iempintro
  isplitr; · iapply (leaf_tok (F := F) 7 (by decide)); iempintro
  iempintro

theorem deal_tail : iprop((bigSep Finset.univ fun c : Dev nD => iprop(tok (c, .tsend 0) 0 ∗ tok (c, .tsend 1) 0))
      ∗ (bigSep Finset.univ fun c : Dev nD => iprop(tok (c, .trecv 0) 0 ∗ tok (c, .trecv 1) 0)))
    ⊢ (bigSep Finset.univ fun c : Dev nD => ttok c : sProp 𝕄) := by
  iintro ⟨H1, H2⟩
  ihave H1 := (pick (fun c : Dev nD => iprop(tok (F := F) (c, .tsend 0) 0 ∗ tok (c, .tsend 1) 0)) 1) $$ H1
  ihave H2 := (pick (fun c : Dev nD => iprop(tok (F := F) (c, .trecv 0) 0 ∗ tok (c, .trecv 1) 0)) 0) $$ H2
  iapply (give_one (fun c : Dev nD => ttok (F := F) c) 1 fun j hj => by unfold ttok; rw [if_neg hj])
  iapply (Entails.of_eq (show iprop((tok (1, .tsend 0) 0 ∗ tok (1, .tsend 1) 0) ∗ (tok (0, .trecv 0) 0 ∗ tok (0, .trecv 1) 0)) = (ttok 1 : sProp 𝕄) by unfold ttok; rw [if_pos rfl]))
  isplitl [H1]; · iexact H1
  iexact H2

theorem deal : (bigSep Finset.univ fun c : Dev nD => ownT c) ⊢ (bigSep Finset.univ fun c : Dev nD => payT c : sProp 𝕄) := by
  unfold ownT payT
  simp only [bigSep_sep']
  iintro ⟨Hb, HS, HR, H1, H2⟩
  isplitl [Hb]; · iapply (Entails.of_eq (deal_bar (F := F))); iexact Hb
  isplitl [HS]; · iexact HS
  isplitl [HR]; · iapply (deal_recv (F := F)); iexact HR
  iapply (deal_tail (F := F))
  simp only [bigSep_sep']
  isplitl [H1]; · iexact H1
  iexact H2

/-! ### The invariants -/

/-- What the launch deals a device, and what becomes of it. -/
def G (c : Dev nD) : sProp 𝕄 :=
  iprop((bigSep Finset.univ fun x : Cl => roundState ER (rd m) (kcell (c, x)) 0)
    ∗ (bigSep Finset.univ fun x : Cl => iprop(pos (c, x) ∗ reached ER (kcell (c, x)) 0)) ∗ payT c)
def recs (K : Dev nD × Cl → ℕ) : sProp 𝕄 :=
  iprop((bigSep Finset.univ fun p : Dev nD × Cl => cellInv ER (rd m) (K p) (kcell p)) ∗ (bigSep Finset.univ fun p : Dev nD × Cl => reached ER (kcell p) 0))
instance recs_persistent (K : Dev nD × Cl → ℕ) : BI.Persistent (recs m K) := by unfold recs; infer_instance
def G' (c : Dev nD) : sProp 𝕄 := iprop(∃ K, recs m K ∗ lin c)

theorem fund_all : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun x : Cl => Φ (kcell (c, x)) := by
    unfold theCells; rw [bigSep_map, bigSep_univ_prod]; rfl
  have hT : bigSep theToks (fun x => (dutyTok ER x.1 x.2.1 x.2.2 : sProp 𝕄))
      = bigSep Finset.univ fun c : Dev nD => bigSep Finset.univ fun x : Cl => bigSep Finset.univ fun d : Fin 8 => tok (c, x) d := by
    unfold theToks; rw [bigSep_map, bigSep_univ_prod, bigSep_univ_prod]; rfl
  iintro HX
  imod (Rounds.fund ER (rd m) theCells theToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  ihave Htok := (show (bigSep Finset.univ fun c : Dev nD => bigSep Finset.univ fun x : Cl => bigSep Finset.univ fun d : Fin 8 => tok (F := F) (c, x) d)
    ⊢ bigSep Finset.univ fun c : Dev nD => ownT c from bigSep_mono fun c _ => ownT_intro c) $$ Htok
  ihave Htok := (deal (F := F)) $$ Htok
  unfold G pos; simp only [bigSep_sep']
  isplitl [Hst]; · iexact Hst
  isplitl [Hat Hr]
  · isplitl [Hat]; · iexact Hat
    iexact Hr
  iexact Htok

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cl => iprop(∃ κ : ℕ, cellInv ER (rd m) κ (kcell (c, x))))
          ∗ (bigSep Finset.univ fun x : Cl => iprop(pos (c, x) ∗ reached ER (kcell (c, x)) 0)) ∗ payT c) := by
  unfold G
  iintro ⟨Hos, Hus, Hst, Hat, Htok⟩
  ihave Hv := (Entails.of_eq (zeros_eq (F := F) c).symm) $$ [Hos Hus]
  · isplitl [Hus] <;> iassumption
  unfold zeros
  imod (show iprop((bigSep Finset.univ fun x : Cl => semVal (kcell (c, x)) 0) ∗ bigSep Finset.univ fun x : Cl => roundState ER (rd m) (kcell (c, x)) 0)
      ⊢ (|={Set.univ}=> bigSep Finset.univ fun x : Cl => iprop(∃ κ : ℕ, cellInv ER (rd m) κ (kcell (c, x))) : sProp 𝕄) from by
        rw [← bigSep_sep']
        exact (bigSep_mono fun x _ => (Rounds.body_intro ER (rd m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun x : Cl => iprop(∃ κ : ℕ, cellInv ER (rd m) κ (kcell (c, x))))
          ∗ (bigSep Finset.univ fun x : Cl => iprop(pos (c, x) ∗ reached ER (kcell (c, x)) 0)) ∗ payT c) : sProp 𝕄)
      ⊢ bigSep Finset.univ (G' m) := by
  rw [bigSep_sep', bigSep_sep', ← bigSep_univ_prod (fun p : Dev nD × Cl => iprop(∃ κ : ℕ, cellInv ER (rd m) κ (kcell p))),
    bigSep_congr (s := Finset.univ) (fun (c : Dev nD) _ => bigSep_sep' Finset.univ (fun x : Cl => pos (F := F) (c, x)) (fun x => reached ER (kcell (c, x)) 0)),
    bigSep_sep', ← bigSep_univ_prod (fun p : Dev nD × Cl => (reached ER (kcell p) 0 : sProp 𝕄))]
  iintro ⟨HI, ⟨Hat, #HR⟩, Htok⟩
  ihave HK := (BI.bigSep_exists_pi Finset.univ (fun (p : Dev nD × Cl) (κ : ℕ) => (cellInv ER (rd m) κ (kcell p) : sProp 𝕄))) $$ HI
  icases HK with ⟨%K, #HI⟩
  iapply (BI.bigSep_with_persistent (R := recs m K) (Φ := fun c => lin (F := F) c) fun c _ => show iprop(recs m K ∗ lin c) ⊢ G' m c from by
    unfold G'; iintro H; iexists K; iexact H)
  isplitr
  · unfold recs; isplitl; · iexact HI
    iexact HR
  · unfold lin; simp only [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The credits -/

/-- How often a cell is paid. -/
def paid (p : Dev nD × Cl) : ℕ := ∑ d : Dev nD, (owedL d).count p
theorem paid_bar : ∀ c : Dev nD, paid (c, .bar) = 8 := by decide
theorem paid_recv : ∀ (c : Dev nD) (k : Fin 8), c ≠ 0 → paid (c, .recv k) = 1 := by decide
theorem paid_trecv : ∀ i : Fin 2, paid (0, .trecv i) = 1 := by decide

theorem launch_at (p : Dev nD × Cl) :
    tallyOn (kcell p) (launchCredit (Pipeline.owing O₀) 0 (kcell p)) = (tallyAt (kcell p) () (paid p * amt p.2) : CellTallies nD τ sig Unit) := by
  unfold tallyAt; refine congrArg _ (Finsupp.ext fun u => ?_); cases u
  rw [Pipeline.launchCredit_owing, Finsupp.single_eq_same]
  unfold paid O₀
  rw [Finset.sum_mul]
  exact Finset.sum_congr rfl fun d _ => Osum_at p (owedL d)

theorem crd_one (p : Dev nD × Cl) (h : paid p = 1) : cred (tallyAt (kcell p) () (paid p * amt p.2)) ⊢ (crd p : sProp 𝕄) := by
  unfold crd; rw [h, Nat.one_mul]

theorem creds (c : Dev nD) : (Pipeline.launchCred O₀ c : sProp 𝕄) ⊢ iprop(cred (tallyAt (kcell (c, .bar)) () 8) ∗ crdM c) := by
  unfold Pipeline.launchCred
  have h1 : (bigSep Finset.univ fun sm : SemLoc sig => cred (tallyOn ((c : Thread nD τ), sm) (launchCredit (Pipeline.owing O₀) 0 ((c : Thread nD τ), sm))) : sProp 𝕄)
      ⊢ bigSep Finset.univ fun x : Cl => cred (tallyAt (kcell (c, x)) () (paid (c, x) * amt x)) := by
    refine (bigSep_subset (Finset.subset_univ (Finset.univ.map ⟨csem, csem_inj⟩))).trans ?_
    rw [bigSep_map]
    exact bigSep_mono fun x _ => Entails.of_eq (show (cred (tallyOn (kcell (c, x)) (launchCredit (Pipeline.owing O₀) 0 (kcell (c, x)))) : sProp 𝕄) = _ by rw [launch_at])
  iintro H
  ihave H := h1 $$ H
  ihave H := (fam_split fun x : Cl => cred (tallyAt (kcell (c, x)) () (paid (c, x) * amt x))) $$ H
  unfold fam
  icases H with ⟨Hb, -, HR, -, HT⟩
  isplitl [Hb]; · rw [paid_bar c]; iexact Hb
  unfold crdM
  by_cases h0 : c = 0
  · subst h0
    rw [if_pos rfl]
    icases HT with ⟨H0, H1⟩
    isplitl [H0]; · iapply (crd_one (F := F) (0, .trecv 0) (paid_trecv 0)); iexact H0
    iapply (crd_one (F := F) (0, .trecv 1) (paid_trecv 1)); iexact H1
  · rw [if_neg h0]
    iapply (sepL_mono (fun k => crd_one (F := F) _ (paid_recv c k h0)) blks)
    iexact HR

/-! ### The rest -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, #Hlev, Hcr, -, %K, #HR, Hl⟩
  ihave Hc := (creds (F := F) c) $$ Hcr
  imodintro
  isplitl
  · isplitl [Hl]
    · iexists K
      isplitr
      · unfold ctx recs
        icases HR with ⟨#HI, #HR⟩
        isplitr; · iexact HI
        isplitr; · iexact HR
        iexact Hlev
      iexact Hl
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [zeros_eq]
  iintro ⟨Hr, Hu, Ho⟩
  isplitl [Hu]; · iexact Hu
  isplitl [Ho]; · iexact Ho
  iexact Hr

theorem lv_owed (c : Dev nD) : ∀ x ∈ owedL c, 0 < lvK x.1 x.2 := by revert c; decide

theorem waits (c : Dev nD) : (levAts L lv : sProp 𝕄) ⊢ Pipeline.cellsWaits cfgs (dats m ρ) () 0 c :=
  Pipeline.cellsWaits_intro cfgs (dats m ρ) () 0 c fun w s t => by
    have hs : lvS c (.dma ((cfg0.win w).sem s)) ≤ 0 := by fin_cases w <;> fin_cases s <;> exact Nat.le_refl 0
    rcases t with ⟨_ | n, ht⟩
    · exact mayWait_list c _ (owedL c) 0 hs (lv_owed c)
    · exact mayWait_list c _ [] 0 hs fun x hx => absurd hx (by simp)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every execution of the eight kernels ends, with every device's arrays at known contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run
-- ==== Proof.Twin.lean ====
module
public import proofs.«01_k».proof.Defs
public import proofs.«01_k».proof.Proof.Gen.Kernel
public import proofs.«01_k».proof.Proof.Gen.KernelIdeal
@[expose] public section
set_option maxRecDepth 16384
noncomputable section
namespace Cert.Proof
open Idealize.ShloMosaic Idealize.ShloMosaic.TcCoe Idealize.SL.Sem

/-- The machine's floats read a named constant as the bits it was printed with. -/
abbrev namedBits : Named Bits := ⟨fun _ _ φ bits => Scalar.ofBits (F := Bits) φ bits⟩

attribute [local instance] namedBits

theorem main_eq : (Cert.KernelIdeal.main (F := Bits)) = (Cert.Kernel.main (F := Bits)) := rfl

theorem p55 : @Cert.KernelIdeal.k0_part55 Bits _ _ _ = @Cert.Kernel.k0_part55 Bits _ _ := by
  unfold Cert.KernelIdeal.k0_part55 Cert.Kernel.k0_part55
  rfl
theorem body_eq : @Cert.KernelIdeal.cc0_body Bits _ _ _ = @Cert.Kernel.cc0_body Bits _ _ := by
  unfold Cert.KernelIdeal.cc0_body Cert.Kernel.cc0_body
  rw [p55]
  rfl
theorem defs₀_eq : @Cert.KernelIdeal.defs₀ Bits _ _ _ = @Cert.Kernel.defs₀ Bits _ _ := by
  unfold Cert.KernelIdeal.defs₀ Cert.Kernel.defs₀
  rw [body_eq]
  refine congrArg _ (funext fun x => funext fun y => ?_)
  match x, y with
  | 0, (t, s) => rfl
theorem defs_eq : @Cert.KernelIdeal.defs Bits _ _ _ = @Cert.Kernel.defs Bits _ _ := by
  unfold Cert.KernelIdeal.defs Cert.Kernel.defs
  rw [defs₀_eq]
  rfl
end Cert.Proof
-- ==== Proof.Frames.lean ====
module

public import proofs.«01_k».proof.Proof.Launch
public import proofs.«01_k».proof.Proof.Twin
public import proofs.«01_k».proof.Proof.Gen.ReferenceIdeal
public import proofs.«01_k».proof.Proof.Gen.ReferenceIdeal.Run
public import Idealize.ShloMosaic.Lib.Claim

@[expose] public section

set_option maxRecDepth 16384

/-!
# The frames

Every program leaves its arguments as they were and every counter at zero, and the named constant is what the idealized
kernel says it is.
-/

noncomputable section

namespace Cert.Proof

open Idealize.ShloMosaic Idealize.ShloMosaic.TcCoe Idealize.SL.Sem

/-! ## The kernel -/

section Kernel

open Cert.KernelIdeal Cert.KernelIdeal.Gen Cert.KernelIdeal.Run

variable {F : FTy → Type} [FloatOps F] [Named F]

/-- A run of the kernel from zero counters leaves every argument of every device as it was, and every counter at zero. -/
theorem kernel_run (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c 0).trans ((dats m g 0 c).arrAt_in 0 rfl _), (h.1 c 1).trans ((dats m g 0 c).arrAt_in 1 rfl _),
       (h.1 c 2).trans ((dats m g 0 c).arrAt_in 2 rfl _), (h.1 c 3).trans ((dats m g 0 c).arrAt_in 3 rfl _),
       (h.1 c 4).trans ((dats m g 0 c).arrAt_in 4 rfl _)⟩, h.2⟩) (run_main m g)

end Kernel

attribute [local instance] namedBits

theorem frame_kernel : Cert.quiescent_Kernel := fun m g _ => by
  have h := kernel_run (F := Bits) m g
  rw [main_eq, defs_eq] at h
  exact h

theorem frame_kernelIdeal : Cert.quiescent_KernelIdeal := fun m g _ => kernel_run (F := Ideal) m g

/-! ## The reference -/

section Reference

open Cert.ReferenceIdeal

/-- The reference's signature has no semaphore. -/
theorem no_sem : ∀ s : SemLoc sig, False := by
  rintro (⟨_, h⟩ | ⟨_, h⟩) <;> exact absurd h (by simp)

theorem reference_run (m : (ℓ : Loc nD τ sig) → Buf (Elt Ideal) ℓ) (g : Dev nD → PrngReg) :
    θ_run (Cert.ReferenceIdeal.defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run Cert.ReferenceIdeal.defs _ _).mono (fun r h => ⟨fun c => (h c).2, funext fun x => (no_sem x.2).elim⟩)
    (Cert.ReferenceIdeal.Value.run (F := Ideal) m g)

end Reference

theorem frame_reference : Cert.quiescent_ReferenceIdeal := fun m g _ => reference_run m g

/-! ## The named constant -/

theorem preserves : Cert.preserves_Kernel_KernelIdeal := IdealRules.named_const.statement Cert.KernelIdeal.κ "mask" .f32 0xF149F2CA#32 ⊥ rfl

end Cert.Proof

end
-- ==== Proof.Pre.lean ====
module

public import proofs.«01_k».proof.Proof.Frames

@[expose] public section

set_option maxRecDepth 16384

/-!
# The frames under the precondition
-/

noncomputable section

namespace Cert.Proof

open Idealize.ShloMosaic Idealize.ShloMosaic.TcCoe Idealize.SL.Sem

/-! ## The preconditions' side conditions -/

instance preKernelFacts : Cert.Pre_finite_scores_KernelIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S1x2048x8x128 := by decide
  reducesTo_S1x2048x8x128_S_d0_1_2_3 := by decide

instance preReferenceFacts : Cert.Pre_finite_scores_ReferenceIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S1x16384x8x128 := by decide
  reducesTo_S1x16384x8x128_S_d0_1_2_3 := by decide

/-! ## The frames -/

theorem frame_kernelIdeal_pre : Cert.quiescent_KernelIdeal_pre_finite_scores_KernelIdeal := fun m g _ => kernel_run (F := Ideal) m g

theorem frame_reference_pre : Cert.quiescent_ReferenceIdeal_pre_finite_scores_ReferenceIdeal := fun m g _ => reference_run m g

end Cert.Proof

end
-- ==== Proof.Window.lean ====
module

public import Idealize.ShloMosaic.Lib.Pointwise

@[expose] public section

set_option maxRecDepth 16384

/-!
# Softmax over a window

Where every score outside a window is minus infinity, and the greatest score is a real number, the softmax over all keys
and the softmax over the window's keys weigh the values alike. And the facts on extended reals and on words that say when
a score is a real number and when a key is near enough to a query.
-/

noncomputable section

namespace Cert.Window

open Idealize.ShloMosaic

/-! ## Real numbers among the extended reals -/

/-- The value is a real number. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r
theorem isReal_of_ne {x : EReal} (ht : x ≠ ⊤) (hb : x ≠ ⊥) : IsReal x := ⟨x.toReal, (EReal.coe_toReal ht hb).symm⟩

/-! ## The exponential and the quotient -/

theorem exp_nonneg (x : EReal) : 0 ≤ Ideal.exp x := by
  induction x with
  | bot => exact le_refl _
  | top => exact le_top
  | coe r => rw [Ideal.exp_coe]; exact_mod_cast (Real.exp_pos r).le

theorem exp_pos {x : EReal} (h : x ≠ ⊥) : 0 < Ideal.exp x := by
  induction x with
  | bot => exact absurd rfl h
  | top => exact EReal.zero_lt_top
  | coe r => rw [Ideal.exp_coe]; exact_mod_cast Real.exp_pos r

theorem bot_sub' (x : EReal) : (⊥ : EReal) - x = ⊥ := by rw [sub_eq_add_neg, EReal.bot_add]

theorem div_zero_left {y : EReal} (h : y ≠ 0) : Ideal.div 0 y = 0 := by
  unfold Ideal.div; rw [if_neg h, zero_mul]

/-! ## The softmax -/

/-- The greatest of finitely many scores. -/
def top {n : ℕ} (s : Fin n → EReal) : EReal := Finset.univ.fold max ⊥ s

theorem top_eq_sup {n : ℕ} (s : Fin n → EReal) : top s = Finset.univ.sup s := rfl

theorem le_top' {n : ℕ} (s : Fin n → EReal) (j : Fin n) : s j ≤ top s := by
  rw [top_eq_sup]; exact Finset.le_sup (Finset.mem_univ j)

/-- What one key weighs. -/
def weight {n : ℕ} (s : Fin n → EReal) (j : Fin n) : EReal :=
  Ideal.div (Ideal.exp (s j - top s)) (∑ x, Ideal.exp (s x - top s))

variable {n N : ℕ} (s : Fin N → EReal) (e : Fin n → Fin N) (he : Function.Injective e)
  (hout : ∀ j, j ∉ Set.range e → s j = ⊥)

include hout in
theorem top_window : top (fun w => s (e w)) = top s := by
  rw [top_eq_sup, top_eq_sup]
  apply le_antisymm
  · exact Finset.sup_le fun w _ => Finset.le_sup (f := s) (Finset.mem_univ (e w))
  · refine Finset.sup_le fun j _ => ?_
    by_cases hj : j ∈ Set.range e
    · obtain ⟨w, rfl⟩ := hj
      exact Finset.le_sup (f := fun w => s (e w)) (Finset.mem_univ w)
    · rw [hout j hj]; exact bot_le

include he hout in
theorem sum_window : (∑ w, Ideal.exp (s (e w) - top s)) = ∑ j, Ideal.exp (s j - top s) :=
  Fintype.sum_of_injective e he _ _ (fun j hj => by rw [hout j hj, bot_sub']; rfl) (fun _ => rfl)

/-- The sum of the exponentials is positive once the scores hold no plus infinity and not only minus infinities. -/
theorem sum_pos (ht : ∀ j, s j ≠ ⊤) (hs : ∃ j, s j ≠ ⊥) : 0 < ∑ j, Ideal.exp (s j - top s) := by
  obtain ⟨j, hj⟩ := hs
  have hT : top s ≠ ⊤ := by
    rw [top_eq_sup]
    exact ne_of_lt ((Finset.sup_lt_iff bot_lt_top).2 fun j _ => lt_top_iff_ne_top.2 (ht j))
  have hB : top s ≠ ⊥ := fun h => hj (le_bot_iff.1 (h ▸ le_top' s j))
  obtain ⟨a, ha⟩ := isReal_of_ne (ht j) hj
  obtain ⟨b, hb⟩ := isReal_of_ne hT hB
  refine lt_of_lt_of_le (exp_pos (x := s j - top s) ?_)
    (Finset.single_le_sum (f := fun j => Ideal.exp (s j - top s)) (fun i _ => exp_nonneg _) (Finset.mem_univ j))
  rw [ha, hb, ← EReal.coe_sub]
  exact EReal.coe_ne_bot _

include he hout in
/-- The values weighed over the window are the values weighed over all keys. -/
theorem window (ht : ∀ j, s j ≠ ⊤) (hs : ∃ j, s j ≠ ⊥) (v : Fin N → EReal) :
    (∑ w, weight (fun w => s (e w)) w * v (e w)) = ∑ j, v j * weight s j := by
  have hp := (sum_pos s ht hs).ne'
  refine Fintype.sum_of_injective e he _ _ (fun j hj => ?_) (fun w => ?_)
  · unfold weight
    rw [hout j hj, bot_sub', Ideal.exp_bot, div_zero_left hp, mul_zero]
  · unfold weight
    rw [top_window s e hout, sum_window s e he hout, mul_comm]

/-! ## Words -/

/-- A key at most 128 away from a query, on words. -/
theorem near_word (a b : ℕ) (ha : a < 2 ^ 20) (hb : b < 2 ^ 20) :
    IntOp.cmpi .sle (IntOp.absi (IntOp.subi (BitVec.ofNat 32 a) (BitVec.ofNat 32 b))) 128#32
      = if a ≤ b + 128 ∧ b ≤ a + 128 then 1#1 else 0#1 := by
  have key : IntOp.absi (IntOp.subi (BitVec.ofNat 32 a) (BitVec.ofNat 32 b)) = BitVec.ofNat 32 (if b ≤ a then a - b else b - a) := by
    unfold IntOp.absi IntOp.subi
    by_cases h : b ≤ a
    · have e1 : BitVec.ofNat 32 a - BitVec.ofNat 32 b = BitVec.ofNat 32 (a - b) := by
        apply BitVec.eq_of_toNat_eq; simp only [BitVec.toNat_sub, BitVec.toNat_ofNat]; omega
      rw [e1, if_pos h, if_neg]
      rw [BitVec.msb_eq_decide, decide_eq_true_eq, BitVec.toNat_ofNat]; omega
    · have e1 : BitVec.ofNat 32 a - BitVec.ofNat 32 b = -BitVec.ofNat 32 (b - a) := by
        apply BitVec.eq_of_toNat_eq; simp only [BitVec.toNat_sub, BitVec.toNat_neg, BitVec.toNat_ofNat]; omega
      rw [e1, if_neg h, if_pos, BitVec.neg_neg]
      rw [BitVec.msb_eq_decide, decide_eq_true_eq, BitVec.toNat_neg, BitVec.toNat_ofNat]; omega
  rw [key]
  have hs : ∀ d : ℕ, d < 2 ^ 20 → (BitVec.ofNat 32 d).sle 128#32 = decide (d ≤ 128) := by
    intro d hd
    have h1 : (BitVec.ofNat 32 d).toInt = (d : ℤ) := by
      rw [BitVec.toInt_eq_toNat_of_lt (by rw [BitVec.toNat_ofNat]; omega), BitVec.toNat_ofNat]
      congr 1; omega
    rw [BitVec.sle_eq_decide, h1, show (128#32 : BitVec 32).toInt = 128 from rfl]
    exact decide_eq_decide.2 (by omega)
  show BitVec.ofBool (BitVec.sle _ _) = _
  rw [hs _ (by split <;> omega)]
  by_cases h : a ≤ b + 128 ∧ b ≤ a + 128
  · rw [if_pos h, decide_eq_true (by split <;> omega)]; rfl
  · rw [if_neg h, decide_eq_false (by split <;> omega)]; rfl

end Cert.Window

end
-- ==== Proof.Finite.lean ====
module

public import proofs.«01_k».proof.Proof.Pre
public import proofs.«01_k».proof.Proof.Window
public import Idealize.ShloMosaic.Lib.ReduceAll

@[expose] public section

set_option maxRecDepth 16384

/-!
# What the precondition says

Where it holds, every entry of the three arrays that the scores are made of is a real number.
-/

noncomputable section

namespace Cert.Proof

open Idealize.ShloMosaic Idealize.ShloMosaic.TcCoe Cert.Window

theorem ofBits_inf : Ideal.ofBits .f32 0x7F800000#32 = ⊤ := by simp [Ideal.ofBits, Ideal.ieee]

/-- An entry whose absolute value is below plus infinity is a real number. -/
theorem isReal_of_bit {x : EReal} (h : BitVec.ofBool (decide (max x (-x) < Ideal.ofBits .f32 0x7F800000#32)) = 1#1) : IsReal x := by
  rw [ofBits_inf] at h
  have h' : max x (-x) < ⊤ := by
    by_contra hc
    rw [decide_eq_false hc] at h
    exact absurd h (by decide)
  refine isReal_of_ne (fun e => ?_) (fun e => ?_)
  · subst e; exact absurd (lt_of_le_of_lt (le_max_left _ _) h') (lt_irrefl _)
  · subst e; exact absurd (lt_of_le_of_lt (le_max_right _ _) h') (by rw [EReal.neg_bot]; exact lt_irrefl _)

/-- All entries of an array are real numbers if the program says that all their absolute values are below plus infinity. -/
theorem all_real {s : Shape} {axes : List (Fin s.rank)} (x : FVec Ideal s .f32) (b : (⟨0, ![]⟩ : Shape).BroadcastsInDim s (![] : Fin 0 → Fin s.rank))
    (init : IVec ⟨0, ![]⟩ 1) (h : s.ReducesTo axes ⟨0, ![]⟩) (hu : 0 < (⟨0, ![]⟩ : Shape).numel)
    (e : Host.reduce IntOp.andi (cmpf .olt (Host.absf x) (broadcastInDim s ![] b (constant ⟨0, ![]⟩ .f32 0x7F800000#32))) init h hu ix0 = 1#1)
    (i : s.Idx) : IsReal (x i) := by
  haveI : Subsingleton (⟨0, ![]⟩ : Shape).Idx := ⟨fun a b => funext fun k => k.elim0⟩
  exact isReal_of_bit (Host.reduce_andi_all _ _ h hu ix0 e i)

theorem pre_real (a0 : FVec Ideal ⟨3, ![1, 2048, 1024]⟩ .f32) (a1 : FVec Ideal ⟨2, ![1024, 1024]⟩ .f32) (a2 a3 : FVec Ideal ⟨4, ![1, 2048, 8, 128]⟩ .f32)
    (a4 : FVec Ideal ⟨2, ![1024, 1024]⟩ .f32)
    (h : Cert.Pre_finite_scores_KernelIdeal.fn (F := Ideal) a0 a1 a2 a3 a4 = fun _ => 1#1) :
    (∀ i, IsReal (a0 i)) ∧ (∀ i, IsReal (a1 i)) ∧ (∀ i, IsReal (a2 i)) := by
  have h0 := congrFun h ix0
  obtain ⟨h1, h2⟩ := IntOp.andi_eq_one.1 h0
  obtain ⟨h3, h4⟩ := IntOp.andi_eq_one.1 h1
  exact ⟨all_real a0 _ _ _ _ h3, all_real a1 _ _ _ _ h4, all_real a2 _ _ _ _ h2⟩

end Cert.Proof

end
-- ==== Proof.Reads.lean ====
module

public import proofs.«01_k».proof.Proof.Value
public import proofs.«01_k».proof.Proof.Window
public import Idealize.ShloMosaic.Lib.Pointwise

@[expose] public section

set_option maxRecDepth 16384

/-!
# The root's result, read at an index over the extended reals

Each stage of a row block at one row: queries, scores, weights, a head, the heads side by side, the block. Then the whole
result, where the window's keys and values are rows of the whole key and value arrays.
-/

noncomputable section

namespace Cert.KernelIdeal.Run

open Cert.KernelIdeal Cert.KernelIdeal.Gen Cert.Window
open Idealize.ShloMosaic Idealize.ShloMosaic.TcCoe

/-- The scale of the scores. -/
def sigma : EReal := Ideal.ofBits .f32 0x3DB504F3#32

theorem ofBits_negInf : Ideal.ofBits .f32 0xFF800000#32 = ⊥ := by simp [Ideal.ofBits, Ideal.ieee]

theorem mask_named : (Named.named (F := Ideal) κ "mask" (φ := .f32) 0xF149F2CA#32) = (⊥ : EReal) := rfl

theorem select_at {α : Type} (b : BitVec 1) (x y : α) : Scalar.select b x y = if b = 1#1 then x else y := by
  rcases BitVec.eq_zero_or_eq_one b with rfl | rfl <;> rfl

/-! ## One block -/

theorem queryOf_at (xb : Vec Ideal S1x256x1024 .f32) (wq : Vec Ideal S1024x1024 .f32) (r : Fin 256) (c : Fin 1024) :
    queryOf xb wq (ix2 r c) = ∑ t : Fin 1024, xb (ix3 0 r t) * wq (ix2 t c) := by
  pointwise [queryOf]

theorem scoreOf_at (q : FVec Ideal S256x1024 .f32) (kk : FVec Ideal S512x8x128 .f32) (mk : IVec S256x512 1)
    (o h : ℕ) (hq : S256x1024.Slices ![0, o] S256x128) (hk : S512x8x128.Slices ![0, h, 0] S512x1x128) (r : Fin 256) (w : Fin 512)
    (ho : o + 128 ≤ 1024) (hh : h < 8) :
    scoreOf q kk mk o h hq hk (ix2 r w) = if mk (ix2 r w) = 1#1 then
      (∑ d : Fin 128, q (ix2 r ⟨o + d.val, by omega⟩) * kk (ix3 w ⟨h, hh⟩ d)) * sigma else ⊥ := by
  pointwise [scoreOf]
  rw [select_at, mask_named]
  rfl

/-- A row's normalised weights. -/
theorem normOf_at (s : FVec Ideal S256x512 .f32) (r : Fin 256) (w : Fin 512) :
    normOf (expOf s) (ix2 r w) = weight (fun w : Fin 512 => s (ix2 r w)) w := by
  pointwise [normOf, expOf]
  rw [ofBits_negInf]
  rfl

theorem headOf_at (q : FVec Ideal S256x1024 .f32) (kk vv : FVec Ideal S512x8x128 .f32) (mk : IVec S256x512 1)
    (o h : ℕ) (hq : S256x1024.Slices ![0, o] S256x128) (hk : S512x8x128.Slices ![0, h, 0] S512x1x128) (r : Fin 256) (d : Fin 128)
    (hh : h < 8) :
    headOf q kk vv mk o h hq hk (ix2 r d) = ∑ w : Fin 512, normOf (expOf (scoreOf q kk mk o h hq hk)) (ix2 r w) * vv (ix3 w ⟨h, hh⟩ d) := by
  pointwise [headOf]

/-- The scores of one row and one head. -/
def rowScore (q : FVec Ideal S256x1024 .f32) (kk : FVec Ideal S512x8x128 .f32) (mk : IVec S256x512 1) (r : Fin 256) (h : Fin 8)
    (w : Fin 512) : EReal :=
  if mk (ix2 r w) = 1#1 then (∑ d : Fin 128, q (ix2 r ⟨h.val * 128 + d.val, by omega⟩) * kk (ix3 w h d)) * sigma else ⊥

/-- One entry of one head. -/
def headEntry (q : FVec Ideal S256x1024 .f32) (kk vv : FVec Ideal S512x8x128 .f32) (mk : IVec S256x512 1) (r : Fin 256) (h : Fin 8)
    (d : Fin 128) : EReal := ∑ w : Fin 512, weight (rowScore q kk mk r h) w * vv (ix3 w h d)

theorem headOf_entry (q : FVec Ideal S256x1024 .f32) (kk vv : FVec Ideal S512x8x128 .f32) (mk : IVec S256x512 1)
    (o h : ℕ) (hq : S256x1024.Slices ![0, o] S256x128) (hk : S512x8x128.Slices ![0, h, 0] S512x1x128) (r : Fin 256)
    (hh : h < 8) (ho : o = h * 128) (d : Fin 128) :
    headOf q kk vv mk o h hq hk (ix2 r d) = headEntry q kk vv mk r ⟨h, hh⟩ d := by
  subst ho
  rw [headOf_at q kk vv mk _ h hq hk r d hh]
  unfold headEntry
  refine Finset.sum_congr rfl fun w _ => ?_
  rw [normOf_at]
  congr 2
  funext w'
  rw [scoreOf_at q kk mk _ h hq hk r w' (by omega) hh]
  rfl

/-- Eight arrays side by side: column `c` is column `c % 128` of array `c / 128`. -/
theorem eight_at (p0 p1 p2 p3 p4 p5 p6 p7 : FVec Ideal S256x128 .f32) (r : Fin 256) (c : Fin 1024) (g : Fin 8 → Fin 128 → EReal)
    (h0 : ∀ d, p0 (ix2 r d) = g 0 d) (h1 : ∀ d, p1 (ix2 r d) = g 1 d) (h2 : ∀ d, p2 (ix2 r d) = g 2 d) (h3 : ∀ d, p3 (ix2 r d) = g 3 d)
    (h4 : ∀ d, p4 (ix2 r d) = g 4 d) (h5 : ∀ d, p5 (ix2 r d) = g 5 d) (h6 : ∀ d, p6 (ix2 r d) = g 6 d) (h7 : ∀ d, p7 (ix2 r d) = g 7 d) :
    concatenate S256x1024 1 [⟨S256x128, p0⟩, ⟨S256x128, p1⟩, ⟨S256x128, p2⟩, ⟨S256x128, p3⟩, ⟨S256x128, p4⟩, ⟨S256x128, p5⟩,
        ⟨S256x128, p6⟩, ⟨S256x128, p7⟩]
      concatenates_S256x128_S256x128_S256x128_S256x128_S256x128_S256x128_S256x128_S256x128_S256x1024_d1 (ix2 r c)
      = g ⟨c.val / 128, by omega⟩ ⟨c.val % 128, Nat.mod_lt _ (by decide)⟩ := by
  have pick : ∀ (k : Fin 8) (v : ℕ) (hv : v < 128), k.val = c.val / 128 → v = c.val % 128 →
      g k ⟨v, hv⟩ = g ⟨c.val / 128, by omega⟩ ⟨c.val % 128, Nat.mod_lt _ (by decide)⟩ := by
    intro k v hv hk hd
    subst hd
    rw [show k = ⟨c.val / 128, by omega⟩ from Fin.ext hk]
  have hc := c.isLt
  pointwise
  split_ifs <;> first
      | (have hk : 0 = c.val / 128 := by omega
         refine (h0 _).trans (pick 0 _ _ hk ?_)
         omega)
      | (have hk : 1 = c.val / 128 := by omega
         refine (h1 _).trans (pick 1 _ _ hk ?_)
         omega)
      | (have hk : 2 = c.val / 128 := by omega
         refine (h2 _).trans (pick 2 _ _ hk ?_)
         omega)
      | (have hk : 3 = c.val / 128 := by omega
         refine (h3 _).trans (pick 3 _ _ hk ?_)
         omega)
      | (have hk : 4 = c.val / 128 := by omega
         refine (h4 _).trans (pick 4 _ _ hk ?_)
         omega)
      | (have hk : 5 = c.val / 128 := by omega
         refine (h5 _).trans (pick 5 _ _ hk ?_)
         omega)
      | (have hk : 6 = c.val / 128 := by omega
         refine (h6 _).trans (pick 6 _ _ hk ?_)
         omega)
      | (have hk : 7 = c.val / 128 := by omega
         refine (h7 _).trans (pick 7 _ _ hk ?_)
         omega)

/-- The eight heads side by side: column `c` is entry `c % 128` of head `c / 128`. -/
theorem headsOf_at (q : FVec Ideal S256x1024 .f32) (kk vv : FVec Ideal S512x8x128 .f32) (mk : IVec S256x512 1) (r : Fin 256) (c : Fin 1024) :
    headsOf q kk vv mk (ix2 r c) = headEntry q kk vv mk r ⟨c.val / 128, by omega⟩ ⟨c.val % 128, Nat.mod_lt _ (by decide)⟩ := by
  unfold headsOf
  have H := fun o h hq hk hh ho d => headOf_entry q kk vv mk o h hq hk r hh ho d
  exact eight_at _ _ _ _ _ _ _ _ r c (headEntry q kk vv mk r) (H _ _ _ _ (by decide) rfl) (H _ _ _ _ (by decide) rfl)
    (H _ _ _ _ (by decide) rfl) (H _ _ _ _ (by decide) rfl) (H _ _ _ _ (by decide) rfl) (H _ _ _ _ (by decide) rfl)
    (H _ _ _ _ (by decide) rfl) (H _ _ _ _ (by decide) rfl)

theorem blkOf_at (qo ko : BitVec 32) (xb : Vec Ideal S1x256x1024 .f32) (kk vv : FVec Ideal S512x8x128 .f32) (wq wo : Vec Ideal S1024x1024 .f32)
    (r : Fin 256) (e : Fin 1024) :
    blkOf qo ko xb kk vv wq wo (ix3 0 r e) = ∑ c : Fin 1024, headsOf (queryOf xb wq) kk vv (maskOf qo ko) (ix2 r c) * wo (ix2 c e) := by
  pointwise [blkOf]

/-- The mask of a block whose rows start at `p` and whose window starts at `b`. -/
theorem maskOf_at (p b : ℕ) (hp : p + 256 ≤ 2048) (hb : b + 512 ≤ 2176) (r : Fin 256) (w : Fin 512) :
    maskOf (BitVec.ofNat 32 p) (BitVec.ofNat 32 b) (ix2 r w)
      = if p + r.val ≤ b + w.val + 128 ∧ b + w.val ≤ p + r.val + 128 then 1#1 else 0#1 := by
  pointwise [maskOf]
  rw [← near_word (p + r.val) (b + w.val) (by omega) (by omega), BitVec.ofNat_add, BitVec.ofNat_add]
  rfl

/-! ## What a block reads -/

theorem rowsAt_at (p : ℕ) (h : p + 256 ≤ 2048) (f : Vec Ideal S1x2048x1024 .f32) (r : Fin 256) (c : Fin 1024) :
    rowsAt p h f (ix3 0 r c) = f (ix3 0 ⟨p + r.val, by omega⟩ c) := by
  refine congrArg f (funext fun a => Fin.ext ?_)
  match a with
  | 0 => rfl
  | 1 => show p + 1 * r.val = p + r.val; omega
  | 2 => show 0 + 1 * c.val = c.val; omega

theorem keys_read (p n : ℕ) (h : p + n ≤ 2048) (f : Vec Ideal S1x2048x8x128 .f32) (w : Fin n) (a : Fin 8) (d : Fin 128) :
    kM.view.readAt (Elt Ideal) (Rect.unit (s := S1x2048x8x128) ![0, p, 0, 0] ![1, n, 8, 128] (inb_keys p n h)).toLoadRect f (ix4 0 w a d)
      = f (ix4 0 ⟨p + w.val, by omega⟩ a d) := by
  refine congrArg f (funext fun x => Fin.ext ?_)
  match x with
  | 0 => rfl
  | 1 => show p + 1 * w.val = p + w.val; omega
  | 2 => show 0 + 1 * a.val = a.val; omega
  | 3 => show 0 + 1 * d.val = d.val; omega

theorem drop_one (g : FVec Ideal S1x512x8x128 .f32) (w : Fin 512) (a : Fin 8) (d : Fin 128) :
    shapeCast S512x8x128 g shapeCasts_S1x512x8x128_S512x8x128 (ix3 w a d) = g (ix4 0 w a d) := by
  pointwise

theorem keysAt_at (p : ℕ) (h : p + 512 ≤ 2048) (f : Vec Ideal S1x2048x8x128 .f32) (w : Fin 512) (a : Fin 8) (d : Fin 128) :
    keysAt p h f (ix3 w a d) = f (ix4 0 ⟨p + w.val, by omega⟩ a d) :=
  (drop_one _ w a d).trans (keys_read p 512 h f w a d)

theorem keysLast_at (f : Vec Ideal S1x2048x8x128 .f32) (t : Vec Ideal S128x8x128 .f32) (w : Fin 512) (a : Fin 8) (d : Fin 128) :
    keysLast f t (ix3 w a d) = if h : w.val < 384 then f (ix4 0 ⟨1664 + w.val, by omega⟩ a d) else t (ix3 ⟨w.val - 384, by omega⟩ a d) := by
  pointwise [keysLast]
  split_ifs with h
  · exact keys_read 1664 384 (by decide) f ⟨w.val, h⟩ a d
  · rfl
  · rfl

end Cert.KernelIdeal.Run

end
-- ==== Proof.Attn.lean ====
module

public import proofs.«01_k».proof.Proof.Reads

@[expose] public section

set_option maxRecDepth 16384

/-!
# Attention over all keys, and the root's result

The attention as the problem states it, with sums over all 16384 keys, and the proof that the root's blocks hold it: outside
a block's window every score of the block's rows is minus infinity.
-/

noncomputable section

namespace Cert.KernelIdeal.Run

open Cert.KernelIdeal Cert.KernelIdeal.Gen Cert.Window
open Idealize.ShloMosaic Idealize.ShloMosaic.TcCoe

/-- The whole key and value arrays' shape. -/
abbrev SAll : Shape := ⟨4, ![1, 16384, 8, 128]⟩

/-! ## The attention -/

/-- Entry `d` of head `h` of query `i`. -/
def query (x : FVec Ideal S1x2048x1024 .f32) (wq : FVec Ideal S1024x1024 .f32) (i : Fin 2048) (h : Fin 8) (d : Fin 128) : EReal :=
  ∑ t : Fin 1024, x (ix3 0 i t) * wq (ix2 t ⟨h.val * 128 + d.val, by omega⟩)

/-- The score of key `j` for query `i`. -/
def score (x : FVec Ideal S1x2048x1024 .f32) (wq : FVec Ideal S1024x1024 .f32) (K : FVec Ideal SAll .f32) (i : Fin 2048) (h : Fin 8)
    (j : Fin 16384) : EReal :=
  if i.val ≤ j.val + 128 ∧ j.val ≤ i.val + 128 then (∑ d : Fin 128, query x wq i h d * K (ix4 0 j h d)) * sigma else ⊥

/-- Entry `d` of head `h` of the context of query `i`. -/
def context (x : FVec Ideal S1x2048x1024 .f32) (wq : FVec Ideal S1024x1024 .f32) (K V : FVec Ideal SAll .f32) (i : Fin 2048) (h : Fin 8)
    (d : Fin 128) : EReal := ∑ j : Fin 16384, V (ix4 0 j h d) * weight (score x wq K i h) j

/-- The attention's result. -/
def attn (x : FVec Ideal S1x2048x1024 .f32) (wq : FVec Ideal S1024x1024 .f32) (K V : FVec Ideal SAll .f32) (wo : FVec Ideal S1024x1024 .f32)
    (i : Fin 2048) (e : Fin 1024) : EReal :=
  ∑ c : Fin 1024, context x wq K V i ⟨c.val / 128, by omega⟩ ⟨c.val % 128, Nat.mod_lt _ (by decide)⟩ * wo (ix2 c e)

/-! ## Real scores -/

theorem sigma_real : IsReal sigma := by
  unfold sigma
  simp [Ideal.ofBits, Ideal.ieee]
  exact IsReal.mul ⟨_, rfl⟩ ⟨_, rfl⟩

section

variable {x : FVec Ideal S1x2048x1024 .f32} {wq : FVec Ideal S1024x1024 .f32} {K : FVec Ideal SAll .f32}
  (hx : ∀ (i : Fin 2048) (t : Fin 1024), IsReal (x (ix3 0 i t))) (hq : ∀ t c : Fin 1024, IsReal (wq (ix2 t c)))
  (i : Fin 2048) (h : Fin 8)
  (hK : ∀ (j : Fin 16384) (d : Fin 128), j.val < 2176 → IsReal (K (ix4 0 j h d)))

include hx hq hK in
/-- The score of a near key is a real number. -/
theorem near_real (j : Fin 16384) (hj : i.val ≤ j.val + 128 ∧ j.val ≤ i.val + 128) : IsReal (score x wq K i h j) := by
  unfold score
  rw [if_pos hj]
  exact (IsReal.sum _ _ fun d => (IsReal.sum _ _ fun t => (hx i t).mul (hq t _)).mul (hK j d (by omega))).mul sigma_real

include hx hq hK in
theorem score_ne_top (j : Fin 16384) : score x wq K i h j ≠ ⊤ := by
  by_cases hj : i.val ≤ j.val + 128 ∧ j.val ≤ i.val + 128
  · exact (near_real hx hq i h hK j hj).ne_top
  · unfold score; rw [if_neg hj]; exact bot_ne_top

include hx hq hK in
theorem score_ne_bot : ∃ j, score x wq K i h j ≠ ⊥ :=
  ⟨⟨i.val, by omega⟩, (near_real hx hq i h hK _ ⟨Nat.le_add_right _ _, Nat.le_add_right _ _⟩).ne_bot⟩

end

/-! ## A block -/

/-- A block whose rows start at `p` and whose window, starting at `b`, holds all keys near those rows. -/
theorem block_at (p b : ℕ) (hp : p + 256 ≤ 2048) (hb : b + 512 ≤ 2176) (hlo : b + 128 ≤ p ∨ b = 0) (hhi : p + 384 ≤ b + 512)
    (x : FVec Ideal S1x2048x1024 .f32) (wq wo : FVec Ideal S1024x1024 .f32) (K V : FVec Ideal SAll .f32)
    (hx : ∀ (i : Fin 2048) (t : Fin 1024), IsReal (x (ix3 0 i t))) (hq : ∀ t c : Fin 1024, IsReal (wq (ix2 t c)))
    (hK : ∀ (j : Fin 16384) (h : Fin 8) (d : Fin 128), j.val < 2176 → IsReal (K (ix4 0 j h d)))
    (xb : Vec Ideal S1x256x1024 .f32) (kk vv : FVec Ideal S512x8x128 .f32)
    (hxb : ∀ (r : Fin 256) (c : Fin 1024), xb (ix3 0 r c) = x (ix3 0 ⟨p + r.val, by omega⟩ c))
    (hkk : ∀ (w : Fin 512) (a : Fin 8) (d : Fin 128), kk (ix3 w a d) = K (ix4 0 ⟨b + w.val, by omega⟩ a d))
    (hvv : ∀ (w : Fin 512) (a : Fin 8) (d : Fin 128), vv (ix3 w a d) = V (ix4 0 ⟨b + w.val, by omega⟩ a d))
    (r : Fin 256) (e : Fin 1024) :
    blkOf (BitVec.ofNat 32 p) (BitVec.ofNat 32 b) xb kk vv wq wo (ix3 0 r e) = attn x wq K V wo ⟨p + r.val, by omega⟩ e := by
  rw [blkOf_at]
  unfold attn
  refine Finset.sum_congr rfl fun c _ => ?_
  rw [headsOf_at]
  refine congrArg (· * wo (ix2 c e)) ?_
  generalize (⟨c.val / 128, _⟩ : Fin 8) = h
  generalize (⟨c.val % 128, _⟩ : Fin 128) = d
  set i : Fin 2048 := ⟨p + r.val, by omega⟩ with hi
  let em : Fin 512 → Fin 16384 := fun w => ⟨b + w.val, by omega⟩
  have hrow : rowScore (queryOf xb wq) kk (maskOf (BitVec.ofNat 32 p) (BitVec.ofNat 32 b)) r h = fun w => score x wq K i h (em w) := by
    funext w
    unfold rowScore score
    rw [maskOf_at p b hp hb r w]
    by_cases hn : p + r.val ≤ b + w.val + 128 ∧ b + w.val ≤ p + r.val + 128
    · rw [if_pos hn, if_pos rfl, if_pos (show i.val ≤ (em w).val + 128 ∧ (em w).val ≤ i.val + 128 from hn)]
      refine congrArg (· * sigma) (Finset.sum_congr rfl fun d' _ => ?_)
      rw [queryOf_at, hkk]
      refine congrArg (· * K (ix4 0 (em w) h d')) (Finset.sum_congr rfl fun t _ => ?_)
      rw [hxb]
    · rw [if_neg hn, if_neg (by decide), if_neg (show ¬(i.val ≤ (em w).val + 128 ∧ (em w).val ≤ i.val + 128) from hn)]
  unfold headEntry context
  rw [hrow, ← window (score x wq K i h) em (fun a c hac => Fin.ext (by have := congrArg Fin.val hac; simp only [em] at this; omega))
    (fun j hj => ?_) (score_ne_top hx hq i h (fun j d => hK j h d)) (score_ne_bot hx hq i h (fun j d => hK j h d)) fun j => V (ix4 0 j h d)]
  · exact Finset.sum_congr rfl fun w _ => by rw [hvv]
  · unfold score
    rw [if_neg]
    rintro ⟨h1, h2⟩
    have h3 : i.val = p + r.val := rfl
    exact hj ⟨⟨j.val - b, by omega⟩, Fin.ext (show b + (j.val - b) = j.val by omega)⟩

/-! ## The result -/

/-- The root's result is the attention, when the root's keys and values are the first 2048 rows of the whole arrays and the rows
that came from device 1 are the next 128. -/
theorem outOf_at (I : Ins Ideal) (K V : FVec Ideal SAll .f32)
    (hx : ∀ (i : Fin 2048) (t : Fin 1024), IsReal (I.x (ix3 0 i t))) (hq : ∀ t c : Fin 1024, IsReal (I.wq (ix2 t c)))
    (hK : ∀ (j : Fin 16384) (h : Fin 8) (d : Fin 128), j.val < 2176 → IsReal (K (ix4 0 j h d)))
    (hk : ∀ (p : Fin 2048) (a : Fin 8) (d : Fin 128), I.k (ix4 0 p a d) = K (ix4 0 ⟨p.val, by omega⟩ a d))
    (hv : ∀ (p : Fin 2048) (a : Fin 8) (d : Fin 128), I.v (ix4 0 p a d) = V (ix4 0 ⟨p.val, by omega⟩ a d))
    (hkt : ∀ (p : Fin 128) (a : Fin 8) (d : Fin 128), I.kt (ix3 p a d) = K (ix4 0 ⟨2048 + p.val, by omega⟩ a d))
    (hvt : ∀ (p : Fin 128) (a : Fin 8) (d : Fin 128), I.vt (ix3 p a d) = V (ix4 0 ⟨2048 + p.val, by omega⟩ a d))
    (i : Fin 2048) (e : Fin 1024) :
    outOf I (ix3 0 i e) = attn I.x I.wq K V I.wo i e := by
  have last : ∀ (f : Vec Ideal S1x2048x8x128 .f32) (t : Vec Ideal S128x8x128 .f32) (G : FVec Ideal SAll .f32),
      (∀ (p : Fin 2048) (a : Fin 8) (d : Fin 128), f (ix4 0 p a d) = G (ix4 0 ⟨p.val, by omega⟩ a d)) →
      (∀ (p : Fin 128) (a : Fin 8) (d : Fin 128), t (ix3 p a d) = G (ix4 0 ⟨2048 + p.val, by omega⟩ a d)) →
      ∀ (w : Fin 512) (a : Fin 8) (d : Fin 128), keysLast f t (ix3 w a d) = G (ix4 0 ⟨1664 + w.val, by omega⟩ a d) := by
    intro f t G hf ht w a d
    rw [keysLast_at]
    split_ifs with h
    · exact hf _ a d
    · refine (ht _ a d).trans (congrArg (fun q => G (ix4 0 q a d)) (Fin.ext ?_))
      show 2048 + (w.val - 384) = 1664 + w.val
      omega
  have key : ∀ (k : Fin 8) (r : Fin 256), blk I k (ix3 0 r e) = attn I.x I.wq K V I.wo ⟨256 * k.val + r.val, by omega⟩ e := by
    intro k r
    unfold blk
    split_ifs with h
    · exact block_at (256 * k.val) (wo0 k.val) (by omega) (by unfold wo0; omega) (by unfold wo0; omega) (by unfold wo0; omega)
        I.x I.wq I.wo K V hx hq hK _ _ _ (fun r c => rowsAt_at _ _ I.x r c) (fun w a d => (keysAt_at _ _ I.k w a d).trans (hk _ a d))
        (fun w a d => (keysAt_at _ _ I.v w a d).trans (hv _ a d)) r e
    · have h7 : k = 7 := Fin.ext (by have := k.isLt; show k.val = 7; omega)
      subst h7
      exact block_at 1792 1664 (by decide) (by decide) (by decide) (by decide) I.x I.wq I.wo K V hx hq hK _ _ _
        (fun r c => rowsAt_at _ _ I.x r c) (last I.k I.kt K hk hkt) (last I.v I.vt V hv hvt) r e
  refine Eq.trans (b := blk I ⟨i.val / 256, by omega⟩ (ix3 0 ⟨i.val % 256, Nat.mod_lt _ (by decide)⟩ e)) ?_ ?_
  · refine congrArg (blk I _) (funext fun a => ?_)
    match a with
    | ⟨0, _⟩ => rfl
    | ⟨1, _⟩ => rfl
    | ⟨2, _⟩ => rfl
  · rw [key]
    exact congrArg (fun q => attn I.x I.wq K V I.wo q e) (Fin.ext (Nat.div_add_mod _ _))

end Cert.KernelIdeal.Run

end
-- ==== Proof.RefRead.lean ====
module

public import proofs.«01_k».proof.Proof.Attn
public import proofs.«01_k».proof.Proof.Gen.ReferenceIdeal.Read
public import Idealize.ShloMosaic.Lib.Tactic.CleanTypes
public import Idealize.ShloMosaic.Lib.Routing.OpsOrder

@[expose] public section

set_option maxRecDepth 16384

/-!
# The reference, read at an index

The reference's result is the attention over all keys: every query has a near key, so no row is set aside.
-/

noncomputable section

namespace Cert.Proof

open Cert.ReferenceIdeal Cert.ReferenceIdeal.Gen Cert.ReferenceIdeal.Value Cert.ReferenceIdeal.Read Cert.Window
open Idealize.ShloMosaic Idealize.ShloMosaic.TcCoe

/-- Every query has a near key, itself: no row is set aside. -/
theorem row_kept (i : Fin 2048) :
    Finset.fold IntOp.ori 0#1 (fun j : Fin 16384 =>
      IntOp.cmpi .sle (IntOp.absi (IntOp.subi (BitVec.ofNat 32 i.val) (BitVec.ofNat 32 j.val))) 128#32) Finset.univ = 1#1 := by
  refine (Idealize.ShloMosaic.Routing.fold_ori _ _).2 ⟨⟨i.val, by omega⟩, Finset.mem_univ _, ?_⟩
  rw [near_word _ _ (by omega) (by show i.val < _; omega), if_pos]
  exact ⟨Nat.le_add_right _ _, Nat.le_add_right _ _⟩

section

variable (x : FVec Ideal S1x2048x1024 .f32) (wq : FVec Ideal S1024x1024 .f32) (K V : FVec Ideal S1x16384x8x128 .f32)
  (wo : FVec Ideal S1024x1024 .f32)

theorem near_at (i : Fin 2048) (j : Fin 16384) :
    (val_main_v11 (F := Ideal) : IVec S2048x16384 1) (ix2 i j)
      = IntOp.cmpi .sle (IntOp.absi (IntOp.subi (BitVec.ofNat 32 i.val) (BitVec.ofNat 32 j.val))) 128#32 := by
  pointwise [val_main_v11, val_main_v10, val_main_c, val_main_v9, val_main_v8, val_main_v7, val_main_v6, val_main_v5, val_main_v4, val_main_v3, val_main_v2]

theorem kept_at (i : Fin 2048) : (val_main_v22 (F := Ideal) : IVec S2048 1) (ix1 i) = 1#1 := by
  rw [← row_kept i]
  simp only [← near_at]
  unfold val_main_v22 val_main_c_2
  generalize (val_main_v11 (F := Ideal) : IVec S2048x16384 1) = t
  pointwise

/-- The masked scores. -/
theorem score_at (h : Fin 8) (i : Fin 2048) (j : Fin 16384) :
    (val_main_v16 (F := Ideal) x wq K : FVec Ideal S1x8x2048x16384 .f32) (ix4 0 h i j) = Cert.KernelIdeal.Run.score x wq K i h j := by
  have hq : ∀ (i : Fin 2048) (h : Fin 8) (d : Fin 128), (val_main_v1 (F := Ideal) x wq : FVec Ideal S1x2048x8x128 .f32) (ix4 0 i h d)
      = Cert.KernelIdeal.Run.query x wq i h d := by
    intro i h d
    unfold Cert.KernelIdeal.Run.query
    pointwise [val_main_v1, val_main_v0]
  have e : (val_main_v16 (F := Ideal) x wq K : FVec Ideal S1x8x2048x16384 .f32) (ix4 0 h i j)
      = Scalar.select ((val_main_v11 (F := Ideal) : IVec S2048x16384 1) (ix2 i j))
          ((∑ d : Fin 128, (val_main_v1 (F := Ideal) x wq : FVec Ideal S1x2048x8x128 .f32) (ix4 0 i h d) * K (ix4 0 j h d))
            * Cert.KernelIdeal.Run.sigma) (Ideal.ofBits .f32 0xFF800000#32) := by
    unfold val_main_v16 val_main_call0_v1 val_main_v15 val_main_v14 val_main_v12 Cert.KernelIdeal.Run.sigma
    generalize (val_main_v11 (F := Ideal) : IVec S2048x16384 1) = t
    generalize (val_main_v1 (F := Ideal) x wq : FVec Ideal S1x2048x8x128 .f32) = q
    pointwise [val_main_v13, val_main_cst, val_main_call0_v2, val_main_call0_v0, val_main_cst_0]
    rfl
  rw [e, near_at, near_word _ _ (by omega) (by omega), Cert.KernelIdeal.Run.select_at, Cert.KernelIdeal.Run.ofBits_negInf]
  simp only [hq]
  unfold Cert.KernelIdeal.Run.score
  by_cases hn : i.val ≤ j.val + 128 ∧ j.val ≤ i.val + 128
  · rw [if_pos hn, if_pos rfl, if_pos hn]
  · rw [if_neg hn, if_neg (by decide), if_neg hn]

/-- The greatest score of a row. -/
theorem top_at (h : Fin 8) (i : Fin 2048) :
    (val_main_v17 (F := Ideal) x wq K : FVec Ideal S1x8x2048 .f32) (ix3 0 h i) = top (Cert.KernelIdeal.Run.score x wq K i h) := by
  have e : (val_main_v17 (F := Ideal) x wq K : FVec Ideal S1x8x2048 .f32) (ix3 0 h i)
      = Finset.fold max (Ideal.ofBits .f32 0xFF800000#32)
          (fun j : Fin 16384 => (val_main_v16 (F := Ideal) x wq K : FVec Ideal S1x8x2048x16384 .f32) (ix4 0 h i j)) Finset.univ := by
    unfold val_main_v17 val_main_cst_1
    generalize (val_main_v16 (F := Ideal) x wq K : FVec Ideal S1x8x2048x16384 .f32) = s
    pointwise
  rw [e, Cert.KernelIdeal.Run.ofBits_negInf]
  simp only [score_at]
  rfl

/-- The exponentials. -/
theorem exp_at (h : Fin 8) (i : Fin 2048) (j : Fin 16384) :
    (val_main_v21 (F := Ideal) x wq K : FVec Ideal S1x8x2048x16384 .f32) (ix4 0 h i j)
      = Ideal.exp (Cert.KernelIdeal.Run.score x wq K i h j - top (Cert.KernelIdeal.Run.score x wq K i h)) := by
  rw [← score_at, ← top_at]
  unfold val_main_v21 val_main_v20 val_main_v19 val_main_v18
  generalize (val_main_v16 (F := Ideal) x wq K : FVec Ideal S1x8x2048x16384 .f32) = s
  generalize (val_main_v17 (F := Ideal) x wq K : FVec Ideal S1x8x2048 .f32) = u
  pointwise

/-- Their sum. -/
theorem sum_at (h : Fin 8) (i : Fin 2048) :
    (val_main_v24 (F := Ideal) x wq K : FVec Ideal S1x8x2048 .f32) (ix3 0 h i)
      = ∑ j : Fin 16384, Ideal.exp (Cert.KernelIdeal.Run.score x wq K i h j - top (Cert.KernelIdeal.Run.score x wq K i h)) := by
  simp only [← exp_at]
  unfold val_main_v24 val_main_cst_3
  generalize (val_main_v21 (F := Ideal) x wq K : FVec Ideal S1x8x2048x16384 .f32) = s
  pointwise

/-- The weights: the rows' own choice between them and a default always takes them. -/
theorem weight_at (h : Fin 8) (i : Fin 2048) (j : Fin 16384) :
    (val_main_v30 (F := Ideal) x wq K : FVec Ideal S1x8x2048x16384 .f32) (ix4 0 h i j) = weight (Cert.KernelIdeal.Run.score x wq K i h) j := by
  have e : (val_main_v30 (F := Ideal) x wq K : FVec Ideal S1x8x2048x16384 .f32) (ix4 0 h i j)
      = Scalar.select ((val_main_v22 (F := Ideal) : IVec S2048 1) (ix1 i))
          (Ideal.div ((val_main_v21 (F := Ideal) x wq K : FVec Ideal S1x8x2048x16384 .f32) (ix4 0 h i j))
            (Scalar.select ((val_main_v22 (F := Ideal) : IVec S2048 1) (ix1 i)) ((val_main_v24 (F := Ideal) x wq K : FVec Ideal S1x8x2048 .f32) (ix3 0 h i))
              (Ideal.ofBits .f32 0x3F800000#32))) (Ideal.ofBits .f32 0x00000000#32) := by
    have e1 : (val_main_call2_v1 (F := Ideal)) (ix4 0 h i j) = (val_main_v22 (F := Ideal) : IVec S2048 1) (ix1 i) := by
      rw [val_main_call2_v1_apply, val_main_v29_apply]
      refine congrArg _ (funext fun a => ?_)
      match a with | ⟨0, _⟩ => rfl
    have e2 : (val_main_v27 (F := Ideal) x wq K) (ix4 0 h i j) = (val_main_v26 (F := Ideal) x wq K : FVec Ideal S1x8x2048x1 .f32) (ix4 0 h i 0) := by
      rw [val_main_v27_apply]
      refine congrArg _ (funext fun a => ?_)
      match a with | ⟨0, _⟩ => rfl | ⟨1, _⟩ => rfl | ⟨2, _⟩ => rfl | ⟨3, _⟩ => rfl
    have e3 : (val_main_call1_v1 (F := Ideal)) (ix4 0 h i 0) = (val_main_v22 (F := Ideal) : IVec S2048 1) (ix1 i) := by
      rw [val_main_call1_v1_apply, val_main_v23_apply]
      refine congrArg _ (funext fun a => ?_)
      match a with | ⟨0, _⟩ => rfl
    have e4 : (val_main_v25 (F := Ideal) x wq K) (ix4 0 h i 0) = (val_main_v24 (F := Ideal) x wq K : FVec Ideal S1x8x2048 .f32) (ix3 0 h i) := by
      rw [val_main_v25_apply]
      refine congrArg _ (funext fun a => ?_)
      match a with | ⟨0, _⟩ => rfl | ⟨1, _⟩ => rfl | ⟨2, _⟩ => rfl
    rw [val_main_v30_apply, e1, val_main_v28_apply, e2, val_main_v26_apply, e3, e4, val_main_call2_v2_apply, val_main_call1_v2_apply]
    rfl
  unfold weight
  rw [e, kept_at, exp_at, sum_at, Cert.KernelIdeal.Run.select_at, if_pos rfl, Cert.KernelIdeal.Run.select_at, if_pos rfl]

/-- The result. -/
theorem result_at (i : Fin 2048) (e : Fin 1024) :
    (val_main_v34 (F := Ideal) x wq K V wo : FVec Ideal S1x2048x1024 .f32) (ix3 0 i e) = Cert.KernelIdeal.Run.attn x wq K V wo i e := by
  unfold Cert.KernelIdeal.Run.attn Cert.KernelIdeal.Run.context
  simp only [← weight_at]
  unfold val_main_v34 val_main_v33 val_main_v32 val_main_v31
  generalize (val_main_v30 (F := Ideal) x wq K : FVec Ideal S1x8x2048x16384 .f32) = t
  pointwise

end

end Cert.Proof

end
-- ==== Proof.Result.lean ====
module

public import proofs.«01_k».proof.Proof.Frames
public import proofs.«01_k».proof.Proof.Finite
public import proofs.«01_k».proof.Proof.Attn
public import proofs.«01_k».proof.Proof.RefRead
public import Idealize.ShloMosaic.Lib.Pipeline.ValueKit
public import Idealize.ShloMosaic.Lib.Layout

@[expose] public section

set_option maxRecDepth 16384

/-!
# Every device ends with the reference's result
-/

noncomputable section

namespace Cert.KernelIdeal.Run

open Cert.KernelIdeal Cert.KernelIdeal.Gen Cert.Window
open Idealize.ShloMosaic Idealize.ShloMosaic.TcCoe

section

variable (m : (ℓ : Loc nD τ sig) → Buf (Elt Ideal) ℓ) (c : Dev nD)

/-! ## What the staging buffers hold -/

theorem xs0_eq : xs0 m c = m ((c : Thread nD τ).loc main_arg0) := by
  funext j
  refine congrArg (m ((c : Thread nD τ).loc main_arg0)) (funext fun a => Fin.ext ?_)
  match a with
  | ⟨0, _⟩ => show 0 * _ + 1 * (j 0).val = (j 0).val; omega
  | ⟨1, _⟩ => show 0 * _ + 1 * (j 1).val = (j 1).val; omega
  | ⟨2, _⟩ => show 0 * _ + 1 * (j 2).val = (j 2).val; omega

theorem xs1_eq : xs1 m c = m ((c : Thread nD τ).loc main_arg1) := by
  funext j
  refine congrArg (m ((c : Thread nD τ).loc main_arg1)) (funext fun a => Fin.ext ?_)
  match a with
  | ⟨0, _⟩ => show 0 * _ + 1 * (j 0).val = (j 0).val; omega
  | ⟨1, _⟩ => show 0 * _ + 1 * (j 1).val = (j 1).val; omega

theorem xs2_eq : xs2 m c = m ((c : Thread nD τ).loc main_arg2) := by
  funext j
  refine congrArg (m ((c : Thread nD τ).loc main_arg2)) (funext fun a => Fin.ext ?_)
  match a with
  | ⟨0, _⟩ => show 0 * _ + 1 * (j 0).val = (j 0).val; omega
  | ⟨1, _⟩ => show 0 * _ + 1 * (j 1).val = (j 1).val; omega
  | ⟨2, _⟩ => show 0 * _ + 1 * (j 2).val = (j 2).val; omega
  | ⟨3, _⟩ => show 0 * _ + 1 * (j 3).val = (j 3).val; omega

theorem xs3_eq : xs3 m c = m ((c : Thread nD τ).loc main_arg3) := by
  funext j
  refine congrArg (m ((c : Thread nD τ).loc main_arg3)) (funext fun a => Fin.ext ?_)
  match a with
  | ⟨0, _⟩ => show 0 * _ + 1 * (j 0).val = (j 0).val; omega
  | ⟨1, _⟩ => show 0 * _ + 1 * (j 1).val = (j 1).val; omega
  | ⟨2, _⟩ => show 0 * _ + 1 * (j 2).val = (j 2).val; omega
  | ⟨3, _⟩ => show 0 * _ + 1 * (j 3).val = (j 3).val; omega

theorem xs4_eq : xs4 m c = m ((c : Thread nD τ).loc main_arg4) := by
  funext j
  refine congrArg (m ((c : Thread nD τ).loc main_arg4)) (funext fun a => Fin.ext ?_)
  match a with
  | ⟨0, _⟩ => show 0 * _ + 1 * (j 0).val = (j 0).val; omega
  | ⟨1, _⟩ => show 0 * _ + 1 * (j 1).val = (j 1).val; omega

theorem head_casts : S1x128x8x128.ShapeCasts S128x8x128 := by decide

theorem drop_head (g : FVec Ideal S1x128x8x128 .f32) (p : Fin 128) (a : Fin 8) (d : Fin 128) :
    shapeCast S128x8x128 g head_casts (ix3 p a d) = g (ix4 0 p a d) := by
  pointwise

/-- The rows device 1 sends. -/
theorem head_at (f : Vec Ideal S1x2048x8x128 .f32) (p : Fin 128) (a : Fin 8) (d : Fin 128) :
    (kHead.view.read (Elt Ideal) f : Vec Ideal S128x8x128 .f32) (ix3 p a d) = f (ix4 0 ⟨p.val, by omega⟩ a d) :=
  ((drop_head _ p a d).trans (keys_read 0 128 (by decide) f p a d)).trans
    (congrArg (fun q => f (ix4 0 q a d)) (Fin.ext (Nat.zero_add _)))

end

/-! ## The blocks of a whole array -/

/-- Row `p` of device `c`'s block is row `2048 c + p` of the whole array. -/
theorem part_at (K : FVec Ideal SAll .f32) (c : Fin 8) (p : Fin 2048) (a : Fin 8) (d : Fin 128) :
    (Layout.block S1x2048x8x128 SAll 1 8 c K : FVec Ideal S1x2048x8x128 .f32) (ix4 0 p a d) = K (ix4 0 ⟨c.val * 2048 + p.val, by omega⟩ a d) := by
  refine congrArg K (funext fun b => Fin.ext ?_)
  match b with
  | ⟨0, _⟩ => rfl
  | ⟨1, _⟩ => rfl
  | ⟨2, _⟩ => rfl
  | ⟨3, _⟩ => rfl

/-- What every device's result array holds at the end. -/
theorem finalA_out (m : (ℓ : Loc nD τ sig) → Buf (Elt Ideal) ℓ) (g : Dev nD → PrngReg) (c : Dev nD) : finalA m g c 5 = OUT m := by
  unfold finalA
  refine (dats m g 0 c).arrAt_eq_of_after_last 5 t0_0 (by decide +kernel) _ fun j => ?_
  blk_simp
  rfl

end Cert.KernelIdeal.Run

namespace Cert.Proof

open Idealize.ShloMosaic Idealize.ShloMosaic.TcCoe Idealize.SL.Sem
open Cert.KernelIdeal.Run Cert.Window

/-! ## The value claim -/

section

variable (m : (ℓ : Loc Cert.KernelIdeal.nD Cert.KernelIdeal.τ Cert.KernelIdeal.sig) → Buf (Elt Ideal) ℓ)
  (x : FVec Ideal Cert.KernelIdeal.S1x2048x1024 .f32) (wq wo : FVec Ideal Cert.KernelIdeal.S1024x1024 .f32) (K V : FVec Ideal SAll .f32)
  (hpre : Cert.Pre_KernelIdeal_finite_scores_KernelIdeal m)
  (h0 : ∀ c : Dev Cert.KernelIdeal.nD, m ((c.tc : Thread Cert.KernelIdeal.nD Cert.KernelIdeal.τ).loc Cert.KernelIdeal.main_arg0) = x)
  (h1 : ∀ c : Dev Cert.KernelIdeal.nD, m ((c.tc : Thread Cert.KernelIdeal.nD Cert.KernelIdeal.τ).loc Cert.KernelIdeal.main_arg1) = wq)
  (h2 : ∀ c : Dev Cert.KernelIdeal.nD, m ((c.tc : Thread Cert.KernelIdeal.nD Cert.KernelIdeal.τ).loc Cert.KernelIdeal.main_arg2)
    = Layout.block Cert.KernelIdeal.S1x2048x8x128 SAll 1 8 c K)
  (h3 : ∀ c : Dev Cert.KernelIdeal.nD, m ((c.tc : Thread Cert.KernelIdeal.nD Cert.KernelIdeal.τ).loc Cert.KernelIdeal.main_arg3)
    = Layout.block Cert.KernelIdeal.S1x2048x8x128 SAll 1 8 c V)
  (h4 : ∀ c : Dev Cert.KernelIdeal.nD, m ((c.tc : Thread Cert.KernelIdeal.nD Cert.KernelIdeal.τ).loc Cert.KernelIdeal.main_arg4) = wo)

include hpre h0 h1 h2 h3 h4 in
/-- The kernel's result is the attention of the whole arrays. -/
theorem out_at (i : Fin 2048) (e : Fin 1024) :
    (OUT m : FVec Ideal Cert.KernelIdeal.S1x2048x1024 .f32) (ix3 0 i e) = attn x wq K V wo i e := by
  have hr := fun c => pre_real _ _ _ _ _ (hpre c)
  have hx0 := (xs0_eq m 0).trans (h0 0)
  have hx1 := (xs1_eq m 0).trans (h1 0)
  have hx2 := fun c => (xs2_eq m c).trans (h2 c)
  have hx3 := fun c => (xs3_eq m c).trans (h3 c)
  have hx4 := (xs4_eq m 0).trans (h4 0)
  have rows : ∀ (f : Vec Ideal Cert.KernelIdeal.S1x2048x8x128 .f32) (G : FVec Ideal SAll .f32) (c : Fin 8),
      f = Layout.block Cert.KernelIdeal.S1x2048x8x128 SAll 1 8 c G → ∀ (p : Fin 2048) (a : Fin 8) (d : Fin 128),
        f (ix4 0 p a d) = G (ix4 0 ⟨c.val * 2048 + p.val, by omega⟩ a d) := by
    intro f G c hf p a d
    rw [hf]; exact part_at G c p a d
  have root : ∀ (f : Vec Ideal Cert.KernelIdeal.S1x2048x8x128 .f32) (G : FVec Ideal SAll .f32),
      f = Layout.block Cert.KernelIdeal.S1x2048x8x128 SAll 1 8 0 G → ∀ (p : Fin 2048) (a : Fin 8) (d : Fin 128),
        f (ix4 0 p a d) = G (ix4 0 ⟨p.val, by omega⟩ a d) := fun f G hf p a d =>
    (rows f G 0 hf p a d).trans (congrArg (fun q => G (ix4 0 q a d)) (Fin.ext (show 0 * 2048 + p.val = p.val by omega)))
  have next : ∀ (f : Vec Ideal Cert.KernelIdeal.S1x2048x8x128 .f32) (G : FVec Ideal SAll .f32),
      f = Layout.block Cert.KernelIdeal.S1x2048x8x128 SAll 1 8 1 G → ∀ (p : Fin 128) (a : Fin 8) (d : Fin 128),
        f (ix4 0 ⟨p.val, by omega⟩ a d) = G (ix4 0 ⟨2048 + p.val, by omega⟩ a d) := fun f G hf p a d =>
    (rows f G 1 hf _ a d).trans (congrArg (fun q => G (ix4 0 q a d)) (Fin.ext (show 1 * 2048 + p.val = 2048 + p.val by omega)))
  have key := outOf_at (insOf m) K V
    (fun i t => by
      have := (hr 0).1 (ix3 0 i t)
      rw [show (insOf m).x = m ((Dev.tc (0 : Dev Cert.KernelIdeal.nD) : Thread Cert.KernelIdeal.nD Cert.KernelIdeal.τ).loc Cert.KernelIdeal.main_arg0) from xs0_eq m 0]
      exact this)
    (fun t c => by
      have := (hr 0).2.1 (ix2 t c)
      rw [show (insOf m).wq = m ((Dev.tc (0 : Dev Cert.KernelIdeal.nD) : Thread Cert.KernelIdeal.nD Cert.KernelIdeal.τ).loc Cert.KernelIdeal.main_arg1) from xs1_eq m 0]
      exact this)
    (fun j h d hj => by
      by_cases hj' : j.val < 2048
      · have e := root _ K (h2 0) ⟨j.val, hj'⟩ h d
        rw [show (⟨j.val, j.isLt⟩ : Fin 16384) = j from rfl] at e
        exact e ▸ (hr 0).2.2 (ix4 0 ⟨j.val, hj'⟩ h d)
      · have e := rows _ K 1 (h2 1) ⟨j.val - 2048, by omega⟩ h d
        rw [show (⟨(1 : Fin 8).val * 2048 + (⟨j.val - 2048, by omega⟩ : Fin 2048).val, by show 1 * 2048 + (j.val - 2048) < 16384; omega⟩ : Fin 16384) = j from
          Fin.ext (show 1 * 2048 + (j.val - 2048) = j.val by omega)] at e
        exact e ▸ (hr 1).2.2 (ix4 0 ⟨j.val - 2048, by omega⟩ h d))
    (root _ K (hx2 0)) (root _ V (hx3 0))
    (fun p a d => (head_at _ p a d).trans (next _ K (hx2 1) p a d))
    (fun p a d => (head_at _ p a d).trans (next _ V (hx3 1) p a d)) i e
  refine key.trans ?_
  rw [show (insOf m).x = x from hx0, show (insOf m).wq = wq from hx1, show (insOf m).wo = wo from hx4]

end

/-- An index of the result. -/
theorem index_eq (j : Cert.KernelIdeal.S1x2048x1024.Idx) : ∃ (i : Fin 2048) (e : Fin 1024), j = ix3 0 i e :=
  ⟨j 1, j 2, funext fun a => by
    match a with
    | ⟨0, _⟩ => exact Fin.ext (show (j 0).val = 0 by have : (j 0).val < 1 := (j 0).isLt; omega)
    | ⟨1, _⟩ => rfl
    | ⟨2, _⟩ => rfl⟩

/-- A run of the kernel leaves its result at `OUT` on every device. -/
theorem kernel_out (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v1) = OUT m
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun r h c =>
      ⟨(h.1 c 5).trans (finalA_out m g c), (h.1 c 0).trans ((dats m g 0 c).arrAt_in 0 rfl _), (h.1 c 1).trans ((dats m g 0 c).arrAt_in 1 rfl _),
       (h.1 c 2).trans ((dats m g 0 c).arrAt_in 2 rfl _), (h.1 c 3).trans ((dats m g 0 c).arrAt_in 3 rfl _),
       (h.1 c 4).trans ((dats m g 0 c).arrAt_in 4 rfl _)⟩) (run_main m g)

/-- The kernel's result and the reference's are one array. -/
theorem algebraic : Cert.algebraic_KernelIdeal_ReferenceIdeal_pre_finite_scores_KernelIdeal := by
  intro m g m' g' hpre hag
  refine ⟨Cert.ReferenceIdeal.Value.res_main_v34 m' 0, ?_, ?_⟩
  · have e : (OUT m : FVec Ideal Cert.KernelIdeal.S1x2048x1024 .f32) = Cert.ReferenceIdeal.Value.res_main_v34 m' 0 := by
      funext j
      obtain ⟨i, e, rfl⟩ := index_eq j
      rw [out_at m _ _ _ _ _ hpre (fun c => (hag c).1) (fun c => (hag c).2.1) (fun c => (hag c).2.2.1) (fun c => (hag c).2.2.2.1)
        (fun c => (hag c).2.2.2.2) i e, Cert.ReferenceIdeal.Read.val_main_v34_eq]
      exact (result_at _ _ _ _ _ i e).symm
    exact (θ_run Cert.KernelIdeal.defs _ _).mono (fun r h c => ⟨(h c).1.trans e, (h c).2⟩) (kernel_out m g)
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Pre
public import proofs.«01_k».proof.Proof.Result

@[expose] public section

noncomputable section

namespace Cert.Proof

theorem claim : Cert.Claim :=
  ⟨Cert.Kernel.Gen.facts, Cert.KernelIdeal.Gen.facts, Cert.ReferenceIdeal.Gen.facts, preKernelFacts, preReferenceFacts,
    frame_kernel, frame_kernelIdeal, frame_kernelIdeal_pre, frame_reference, frame_reference_pre, preserves, algebraic⟩

end Cert.Proof

end
